-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![8192, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2x2048x256 : Shape := ⟨3, ![2, 2048, 256]⟩
abbrev S2x3x2048x256 : Shape := ⟨4, ![2, 3, 2048, 256]⟩
abbrev S4x2 : Shape := ⟨2, ![4, 2]⟩
abbrev S_ : Shape := ⟨0, ![]⟩
abbrev S2048x1 : Shape := ⟨2, ![2048, 1]⟩
abbrev S2048x256 : Shape := ⟨2, ![2048, 256]⟩
abbrev S2047x256 : Shape := ⟨2, ![2047, 256]⟩
abbrev S1x256 : Shape := ⟨2, ![1, 256]⟩
abbrev S2046x256 : Shape := ⟨2, ![2046, 256]⟩
abbrev S2x256 : Shape := ⟨2, ![2, 256]⟩
abbrev S2044x256 : Shape := ⟨2, ![2044, 256]⟩
abbrev S4x256 : Shape := ⟨2, ![4, 256]⟩
abbrev S2040x256 : Shape := ⟨2, ![2040, 256]⟩
abbrev S8x256 : Shape := ⟨2, ![8, 256]⟩
abbrev S2032x256 : Shape := ⟨2, ![2032, 256]⟩
abbrev S16x256 : Shape := ⟨2, ![16, 256]⟩
abbrev S2016x256 : Shape := ⟨2, ![2016, 256]⟩
abbrev S32x256 : Shape := ⟨2, ![32, 256]⟩
abbrev S1984x256 : Shape := ⟨2, ![1984, 256]⟩
abbrev S64x256 : Shape := ⟨2, ![64, 256]⟩
abbrev S1920x256 : Shape := ⟨2, ![1920, 256]⟩
abbrev S128x256 : Shape := ⟨2, ![128, 256]⟩
abbrev S1792x256 : Shape := ⟨2, ![1792, 256]⟩
abbrev S256x256 : Shape := ⟨2, ![256, 256]⟩
abbrev S1536x256 : Shape := ⟨2, ![1536, 256]⟩
abbrev S512x256 : Shape := ⟨2, ![512, 256]⟩
abbrev S1024x256 : Shape := ⟨2, ![1024, 256]⟩
abbrev S1x2048x256 : Shape := ⟨3, ![1, 2048, 256]⟩
abbrev S1x1 : Shape := ⟨2, ![1, 1]⟩
abbrev S1x1x2048x256 : Shape := ⟨4, ![1, 1, 2048, 256]⟩

abbrev nBuf : Space → Nat
  | .hbm => 2
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .local _ .vmem, ⟨0, _⟩ => ⟨S2048x512, .f32⟩
  | .local _ .vmem, ⟨1, _⟩ => ⟨S2048x512, .bf16⟩
  | .local _ .vmem, ⟨2, _⟩ => ⟨S2x2048x256, .bf16⟩
  | .local _ .vmem, ⟨3, _⟩ => ⟨S2x2048x256, .bf16⟩
  | .local _ .vmem, ⟨4, _⟩ => ⟨S2x2048x256, .bf16⟩
  | .local _ .vmem, ⟨5, _⟩ => ⟨S2x3x2048x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_7 : BitVec 32 := 1#32
  let v11 : BitVec 32 := Scalar.muli v5 c1_i32_7
  let v12 : BitVec 32 := Scalar.addi c0_i32_8 v11
  v12.toNat
@[reducible] def k0_t1_loop : Scf.Loop 32 :=
  let c0_i32_21 : BitVec 32 := 0#32
  let c2_i32_22 : BitVec 32 := 2#32
  let v26 : BitVec 32 := Scalar.addi c0_i32_21 c2_i32_22
  let c1_i32_23 : BitVec 32 := 1#32
  ⟨c0_i32_21, v26, c1_i32_23⟩
def k0_off1 (k0_t1 : Fin k0_t1_loop.trips) : Fin 2 → Nat :=
  let c0 : Index := 0#32
  let c0_i32_21 : BitVec 32 := 0#32
  let c1_i32_23 : BitVec 32 := 1#32
  let arg8 : BitVec 32 := Scf.iv c0_i32_21 c1_i32_23 k0_t1
  let c256_i32 : BitVec 32 := 256#32
  let v30 : BitVec 32 := Scalar.muli arg8 c256_i32
  let v31 : Index := Scalar.indexCast v30
  ![0, v31.toNat]
def k0_off2 (k0_t1 : Fin k0_t1_loop.trips) : Fin 3 → Nat :=
  let c0_i32_21 : BitVec 32 := 0#32
  let c1_i32_23 : BitVec 32 := 1#32
  let arg8 : BitVec 32 := Scf.iv c0_i32_21 c1_i32_23 k0_t1
  let v1751 : Index := Scalar.indexCast arg8
  let c0_358 : Index := 0#32
  let c0_359 : Index := 0#32
  ![v1751.toNat, 0, 0]
def k0_off3 (k0_t1 : Fin k0_t1_loop.trips) : Fin 2 → Nat :=
  let c0_i32_361 : BitVec 32 := 0#32
  let c0_i32_21 : BitVec 32 := 0#32
  let c1_i32_23 : BitVec 32 := 1#32
  let arg8 : BitVec 32 := Scf.iv c0_i32_21 c1_i32_23 k0_t1
  ![0, arg8.toNat]
def k0_off4 (k0_t1 : Fin k0_t1_loop.trips) : Fin 3 → Nat :=
  let c0_i32_21 : BitVec 32 := 0#32
  let c1_i32_23 : BitVec 32 := 1#32
  let arg8 : BitVec 32 := Scf.iv c0_i32_21 c1_i32_23 k0_t1
  let c0_i32_364 : BitVec 32 := 0#32
  let c0_i32_365 : BitVec 32 := 0#32
  ![arg8.toNat, 0, 0]
def k0_dev4 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_362 : BitVec 32 := 1#32
  let v1755 : BitVec 32 := Scalar.muli v3 c1_i32_362
  let v1756 : BitVec 32 := Scalar.addi c0_i32_363 v1755
  v1756.toNat
@[reducible] def k0_t2_loop : Scf.Loop 32 :=
  let c0_i32_25 : BitVec 32 := 0#32
  let c2_i32_26 : BitVec 32 := 2#32
  let v27 : BitVec 32 := Scalar.addi c0_i32_25 c2_i32_26
  let c1_i32_27 : BitVec 32 := 1#32
  ⟨c0_i32_25, v27, c1_i32_27⟩
def k0_off5 (k0_t2 : Fin k0_t2_loop.trips) : Fin 2 → Nat :=
  let c0_i32_37 : BitVec 32 := 0#32
  let c0_i32_25 : BitVec 32 := 0#32
  let c1_i32_27 : BitVec 32 := 1#32
  let arg8 : BitVec 32 := Scf.iv c0_i32_25 c1_i32_27 k0_t2
  ![0, arg8.toNat]
def k0_off6 (k0_t2 : Fin k0_t2_loop.trips) : Fin 3 → Nat :=
  let c0_i32_25 : BitVec 32 := 0#32
  let c1_i32_27 : BitVec 32 := 1#32
  let arg8 : BitVec 32 := Scf.iv c0_i32_25 c1_i32_27 k0_t2
  let c0_i32_41 : BitVec 32 := 0#32
  let c0_i32_42 : BitVec 32 := 0#32
  ![arg8.toNat, 0, 0]
def k0_off7 (k0_t2 : Fin k0_t2_loop.trips) : Fin 3 → Nat :=
  let c0_i32_25 : BitVec 32 := 0#32
  let c1_i32_27 : BitVec 32 := 1#32
  let arg8 : BitVec 32 := Scf.iv c0_i32_25 c1_i32_27 k0_t2
  let v38 : Index := Scalar.indexCast arg8
  let c0 : Index := 0#32
  let c0_45 : Index := 0#32
  ![v38.toNat, 0, 0]
def k0_off8 (k0_t2 : Fin k0_t2_loop.trips) : Fin 2 → Nat :=
  let c1_i32_76 : BitVec 32 := 1#32
  let c0_i32_25 : BitVec 32 := 0#32
  let c1_i32_27 : BitVec 32 := 1#32
  let arg8 : BitVec 32 := Scf.iv c0_i32_25 c1_i32_27 k0_t2
  ![1, arg8.toNat]
def k0_off9 (k0_t2 : Fin k0_t2_loop.trips) : Fin 4 → Nat :=
  let c0_i32_25 : BitVec 32 := 0#32
  let c1_i32_27 : BitVec 32 := 1#32
  let arg8 : BitVec 32 := Scf.iv c0_i32_25 c1_i32_27 k0_t2
  let c0_i32_74 : BitVec 32 := 0#32
  let c0_i32_79 : BitVec 32 := 0#32
  let c0_i32_80 : BitVec 32 := 0#32
  ![arg8.toNat, 0, 0, 0]
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_77 : BitVec 32 := 1#32
  let v293 : BitVec 32 := Scalar.muli v3 c1_i32_77
  let v294 : BitVec 32 := Scalar.addi c0_i32_78 v293
  v294.toNat
def k0_off10 (k0_t2 : Fin k0_t2_loop.trips) : Fin 2 → Nat :=
  let c2_i32_85 : BitVec 32 := 2#32
  let c0_i32_25 : BitVec 32 := 0#32
  let c1_i32_27 : BitVec 32 := 1#32
  let arg8 : BitVec 32 := Scf.iv c0_i32_25 c1_i32_27 k0_t2
  ![2, arg8.toNat]
def k0_off11 (k0_t2 : Fin k0_t2_loop.trips) : Fin 4 → Nat :=
  let c0_i32_25 : BitVec 32 := 0#32
  let c1_i32_27 : BitVec 32 := 1#32
  let arg8 : BitVec 32 := Scf.iv c0_i32_25 c1_i32_27 k0_t2
  let c1_i32_83 : BitVec 32 := 1#32
  let c0_i32_88 : BitVec 32 := 0#32
  let c0_i32_89 : BitVec 32 := 0#32
  ![arg8.toNat, 1, 0, 0]
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_86 : BitVec 32 := 1#32
  let v303 : BitVec 32 := Scalar.muli v4 c1_i32_86
  let v304 : BitVec 32 := Scalar.addi c0_i32_87 v303
  v304.toNat
def k0_off12 (k0_t2 : Fin k0_t2_loop.trips) : Fin 2 → Nat :=
  let c3_i32_94 : BitVec 32 := 3#32
  let c0_i32_25 : BitVec 32 := 0#32
  let c1_i32_27 : BitVec 32 := 1#32
  let arg8 : BitVec 32 := Scf.iv c0_i32_25 c1_i32_27 k0_t2
  ![3, arg8.toNat]
def k0_off13 (k0_t2 : Fin k0_t2_loop.trips) : Fin 4 → Nat :=
  let c0_i32_25 : BitVec 32 := 0#32
  let c1_i32_27 : BitVec 32 := 1#32
  let arg8 : BitVec 32 := Scf.iv c0_i32_25 c1_i32_27 k0_t2
  let c2_i32_92 : BitVec 32 := 2#32
  let c0_i32_97 : BitVec 32 := 0#32
  let c0_i32_98 : BitVec 32 := 0#32
  ![arg8.toNat, 2, 0, 0]
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.xori v2 c3_i32
  let c1_i32_95 : BitVec 32 := 1#32
  let v313 : BitVec 32 := Scalar.muli v5 c1_i32_95
  let v314 : BitVec 32 := Scalar.addi c0_i32_96 v313
  v314.toNat
@[reducible] def k0_t3_loop : Scf.Loop 32 :=
  let c0_i32_29 : BitVec 32 := 0#32
  let c2_i32_30 : BitVec 32 := 2#32
  let v28 : BitVec 32 := Scalar.addi c0_i32_29 c2_i32_30
  let c1_i32_31 : BitVec 32 := 1#32
  ⟨c0_i32_29, v28, c1_i32_31⟩
def k0_off14 (k0_t3 : Fin k0_t3_loop.trips) : Fin 2 → Nat :=
  let c1_i32_38 : BitVec 32 := 1#32
  let c0_i32_29 : BitVec 32 := 0#32
  let c1_i32_31 : BitVec 32 := 1#32
  let arg8 : BitVec 32 := Scf.iv c0_i32_29 c1_i32_31 k0_t3
  ![1, arg8.toNat]
def k0_off15 (k0_t3 : Fin k0_t3_loop.trips) : Fin 4 → Nat :=
  let c0_i32_29 : BitVec 32 := 0#32
  let c1_i32_31 : BitVec 32 := 1#32
  let arg8 : BitVec 32 := Scf.iv c0_i32_29 c1_i32_31 k0_t3
  let c0_i32_37 : BitVec 32 := 0#32
  let c0_i32_42 : BitVec 32 := 0#32
  let c0_i32_43 : BitVec 32 := 0#32
  ![arg8.toNat, 0, 0, 0]
def k0_off16 (k0_t3 : Fin k0_t3_loop.trips) : Fin 3 → Nat :=
  let c0_i32_29 : BitVec 32 := 0#32
  let c1_i32_31 : BitVec 32 := 1#32
  let arg8 : BitVec 32 := Scf.iv c0_i32_29 c1_i32_31 k0_t3
  let c0_i32_44 : BitVec 32 := 0#32
  let c0_i32_45 : BitVec 32 := 0#32
  ![arg8.toNat, 0, 0]
def k0_off17 (k0_t3 : Fin k0_t3_loop.trips) : Fin 2 → Nat :=
  let c2_i32_47 : BitVec 32 := 2#32
  let c0_i32_29 : BitVec 32 := 0#32
  let c1_i32_31 : BitVec 32 := 1#32
  let arg8 : BitVec 32 := Scf.iv c0_i32_29 c1_i32_31 k0_t3
  ![2, arg8.toNat]
def k0_off18 (k0_t3 : Fin k0_t3_loop.trips) : Fin 4 → Nat :=
  let c0_i32_29 : BitVec 32 := 0#32
  let c1_i32_31 : BitVec 32 := 1#32
  let arg8 : BitVec 32 := Scf.iv c0_i32_29 c1_i32_31 k0_t3
  let c1_i32_46 : BitVec 32 := 1#32
  let c0_i32_51 : BitVec 32 := 0#32
  let c0_i32_52 : BitVec 32 := 0#32
  ![arg8.toNat, 1, 0, 0]
def k0_off19 (k0_t3 : Fin k0_t3_loop.trips) : Fin 2 → Nat :=
  let c3_i32_56 : BitVec 32 := 3#32
  let c0_i32_29 : BitVec 32 := 0#32
  let c1_i32_31 : BitVec 32 := 1#32
  let arg8 : BitVec 32 := Scf.iv c0_i32_29 c1_i32_31 k0_t3
  ![3, arg8.toNat]
def k0_off20 (k0_t3 : Fin k0_t3_loop.trips) : Fin 4 → Nat :=
  let c0_i32_29 : BitVec 32 := 0#32
  let c1_i32_31 : BitVec 32 := 1#32
  let arg8 : BitVec 32 := Scf.iv c0_i32_29 c1_i32_31 k0_t3
  let c2_i32_55 : BitVec 32 := 2#32
  let c0_i32_60 : BitVec 32 := 0#32
  let c0_i32_61 : BitVec 32 := 0#32
  ![arg8.toNat, 2, 0, 0]
def k0_off21 (k0_t3 : Fin k0_t3_loop.trips) : Fin 4 → Nat :=
  let c0_i32_29 : BitVec 32 := 0#32
  let c1_i32_31 : BitVec 32 := 1#32
  let arg8 : BitVec 32 := Scf.iv c0_i32_29 c1_i32_31 k0_t3
  let v54 : Index := Scalar.indexCast arg8
  let c0 : Index := 0#32
  let c0_64 : Index := 0#32
  let c0_65 : Index := 0#32
  ![v54.toNat, 0, 0, 0]
def k0_off22 (k0_t3 : Fin k0_t3_loop.trips) : Fin 4 → Nat :=
  let c0_i32_29 : BitVec 32 := 0#32
  let c1_i32_31 : BitVec 32 := 1#32
  let arg8 : BitVec 32 := Scf.iv c0_i32_29 c1_i32_31 k0_t3
  let v57 : Index := Scalar.indexCast arg8
  let c1 : Index := 1#32
  let c0_66 : Index := 0#32
  let c0_67 : Index := 0#32
  ![v57.toNat, 1, 0, 0]
def k0_off23 (k0_t3 : Fin k0_t3_loop.trips) : Fin 4 → Nat :=
  let c0_i32_29 : BitVec 32 := 0#32
  let c1_i32_31 : BitVec 32 := 1#32
  let arg8 : BitVec 32 := Scf.iv c0_i32_29 c1_i32_31 k0_t3
  let v60 : Index := Scalar.indexCast arg8
  let c2 : Index := 2#32
  let c0_68 : Index := 0#32
  let c0_69 : Index := 0#32
  ![v60.toNat, 2, 0, 0]
def k0_off24 (k0_t3 : Fin k0_t3_loop.trips) : Fin 3 → Nat :=
  let c0_i32_29 : BitVec 32 := 0#32
  let c1_i32_31 : BitVec 32 := 1#32
  let arg8 : BitVec 32 := Scf.iv c0_i32_29 c1_i32_31 k0_t3
  let v63 : Index := Scalar.indexCast arg8
  let c0_70 : Index := 0#32
  let c0_71 : Index := 0#32
  ![v63.toNat, 0, 0]
def k0_off25 (k0_t3 : Fin k0_t3_loop.trips) : Fin 2 → Nat :=
  let c0_108 : Index := 0#32
  let c0_i32_29 : BitVec 32 := 0#32
  let c1_i32_31 : BitVec 32 := 1#32
  let arg8 : BitVec 32 := Scf.iv c0_i32_29 c1_i32_31 k0_t3
  let c256_i32_107 : BitVec 32 := 256#32
  let v317 : BitVec 32 := Scalar.muli arg8 c256_i32_107
  let v318 : Index := Scalar.indexCast v317
  ![0, v318.toNat]
@[reducible] def k0_t4_loop : Scf.Loop 32 :=
  let c0_i32_33 : BitVec 32 := 0#32
  let c2_i32_34 : BitVec 32 := 2#32
  let v29 : BitVec 32 := Scalar.addi c0_i32_33 c2_i32_34
  let c1_i32_35 : BitVec 32 := 1#32
  ⟨c0_i32_33, v29, c1_i32_35⟩
def k0_off26 (k0_t4 : Fin k0_t4_loop.trips) : Fin 2 → Nat :=
  let c0_i32_37 : BitVec 32 := 0#32
  let c0_i32_33 : BitVec 32 := 0#32
  let c1_i32_35 : BitVec 32 := 1#32
  let arg8 : BitVec 32 := Scf.iv c0_i32_33 c1_i32_35 k0_t4
  ![0, arg8.toNat]
def k0_off27 (k0_t4 : Fin k0_t4_loop.trips) : Fin 3 → Nat :=
  let c0_i32_33 : BitVec 32 := 0#32
  let c1_i32_35 : BitVec 32 := 1#32
  let arg8 : BitVec 32 := Scf.iv c0_i32_33 c1_i32_35 k0_t4
  let c0_i32_40 : BitVec 32 := 0#32
  let c0_i32_41 : BitVec 32 := 0#32
  ![arg8.toNat, 0, 0]
def k0_off28 (k0_t4 : Fin k0_t4_loop.trips) : Fin 2 → Nat :=
  let c1_i32_45 : BitVec 32 := 1#32
  let c0_i32_33 : BitVec 32 := 0#32
  let c1_i32_35 : BitVec 32 := 1#32
  let arg8 : BitVec 32 := Scf.iv c0_i32_33 c1_i32_35 k0_t4
  ![1, arg8.toNat]
def k0_off29 (k0_t4 : Fin k0_t4_loop.trips) : Fin 4 → Nat :=
  let c0_i32_33 : BitVec 32 := 0#32
  let c1_i32_35 : BitVec 32 := 1#32
  let arg8 : BitVec 32 := Scf.iv c0_i32_33 c1_i32_35 k0_t4
  let c0_i32_44 : BitVec 32 := 0#32
  let c0_i32_50 : BitVec 32 := 0#32
  let c0_i32_51 : BitVec 32 := 0#32
  ![arg8.toNat, 0, 0, 0]
def k0_off30 (k0_t4 : Fin k0_t4_loop.trips) : Fin 2 → Nat :=
  let c2_i32_53 : BitVec 32 := 2#32
  let c0_i32_33 : BitVec 32 := 0#32
  let c1_i32_35 : BitVec 32 := 1#32
  let arg8 : BitVec 32 := Scf.iv c0_i32_33 c1_i32_35 k0_t4
  ![2, arg8.toNat]
def k0_off31 (k0_t4 : Fin k0_t4_loop.trips) : Fin 4 → Nat :=
  let c0_i32_33 : BitVec 32 := 0#32
  let c1_i32_35 : BitVec 32 := 1#32
  let arg8 : BitVec 32 := Scf.iv c0_i32_33 c1_i32_35 k0_t4
  let c1_i32_52 : BitVec 32 := 1#32
  let c0_i32_58 : BitVec 32 := 0#32
  let c0_i32_59 : BitVec 32 := 0#32
  ![arg8.toNat, 1, 0, 0]
def k0_off32 (k0_t4 : Fin k0_t4_loop.trips) : Fin 2 → Nat :=
  let c3_i32_61 : BitVec 32 := 3#32
  let c0_i32_33 : BitVec 32 := 0#32
  let c1_i32_35 : BitVec 32 := 1#32
  let arg8 : BitVec 32 := Scf.iv c0_i32_33 c1_i32_35 k0_t4
  ![3, arg8.toNat]
def k0_off33 (k0_t4 : Fin k0_t4_loop.trips) : Fin 4 → Nat :=
  let c0_i32_33 : BitVec 32 := 0#32
  let c1_i32_35 : BitVec 32 := 1#32
  let arg8 : BitVec 32 := Scf.iv c0_i32_33 c1_i32_35 k0_t4
  let c2_i32_60 : BitVec 32 := 2#32
  let c0_i32_66 : BitVec 32 := 0#32
  let c0_i32_67 : BitVec 32 := 0#32
  ![arg8.toNat, 2, 0, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Stage.lean ====
/-
# The vectors the kernel computes

The kernel keeps one chunk of 2048 rows by 256 lanes at a time and sorts each lane by compare-exchange
stages. `stage e up v` is one stage at distance `2 ^ e` with the printed operations: the two rotations of the
rows, the partner picked by bit `e` of the row number, and the smaller or the larger of the pair by whether
that bit agrees with the direction `up`. The three phases are folds of it: `presorted` (all eleven merges,
the direction of a row read off the bit above the merge), `merged` (one exchange with the neighbour's chunk,
then the eleven distances with one direction) and `finished` (two exchanges among the four devices' chunks,
then the eleven distances ascending).

The rest of the file states the regions of the kernel's four loops as short programs over these vectors.
-/
module

public import proofs.«01_k».proof.Proof.Gen.KernelIdeal
public import proofs.«01_k».proof.Proof.Gen.KernelIdeal.Skeleton
public import Idealize.ShloMosaic.Lib.Tactic

@[expose] public section

noncomputable section

namespace Cert.KernelIdeal.Sort

open Cert.KernelIdeal Cert.KernelIdeal.Gen
open Idealize.ShloMosaic Idealize.ShloMosaic.TcCoe Idealize.ShloMosaic.Tactic
open Idealize.SL.Sem

variable {F : FTy → Type} [FloatOps F]

/-! ## The stage -/

theorem slices_low (e : Fin 11) : S2048x256.Slices ![2 ^ e.val, 0] ⟨2, ![2048 - 2 ^ e.val, 256]⟩ := by
  revert e; decide

theorem slices_head (e : Fin 11) : S2048x256.Slices ![0, 0] ⟨2, ![2 ^ e.val, 256]⟩ := by
  revert e; decide

theorem slices_tail (e : Fin 11) : S2048x256.Slices ![2048 - 2 ^ e.val, 0] ⟨2, ![2 ^ e.val, 256]⟩ := by
  revert e; decide

theorem slices_front (e : Fin 11) : S2048x256.Slices ![0, 0] ⟨2, ![2048 - 2 ^ e.val, 256]⟩ := by
  revert e; decide

theorem concatenates_up (e : Fin 11) :
    Shape.Concatenates [⟨2, ![2048 - 2 ^ e.val, 256]⟩, ⟨2, ![2 ^ e.val, 256]⟩] S2048x256 0 := by
  revert e; decide

theorem concatenates_down (e : Fin 11) :
    Shape.Concatenates [⟨2, ![2 ^ e.val, 256]⟩, ⟨2, ![2048 - 2 ^ e.val, 256]⟩] S2048x256 0 := by
  revert e; decide

/-- The row numbers. -/
abbrev rowNo : IVec S2048x1 32 := iota .tc S2048x1 32 [0] iota_S2048x1_d0_w32

/-- Whether bit `e` of the row number is clear. -/
def bitClear (e : Nat) : IVec S2048x1 1 :=
  cmpi .eq (andi rowNo (broadcast S2048x1 (BitVec.ofNat 32 (2 ^ e)))) (broadcast S2048x1 0#32)

/-- The rows moved up by `2 ^ e`, cyclically. -/
def rollUp (e : Fin 11) (v : FVec F S2048x256 .bf16) : FVec F S2048x256 .bf16 :=
  concatenate S2048x256 0
    [⟨⟨2, ![2048 - 2 ^ e.val, 256]⟩, extractStridedSlice ⟨2, ![2048 - 2 ^ e.val, 256]⟩ ![2 ^ e.val, 0] v (slices_low e)⟩,
     ⟨⟨2, ![2 ^ e.val, 256]⟩, extractStridedSlice ⟨2, ![2 ^ e.val, 256]⟩ ![0, 0] v (slices_head e)⟩]
    (concatenates_up e)

/-- The rows moved down by `2 ^ e`, cyclically. -/
def rollDown (e : Fin 11) (v : FVec F S2048x256 .bf16) : FVec F S2048x256 .bf16 :=
  concatenate S2048x256 0
    [⟨⟨2, ![2 ^ e.val, 256]⟩, extractStridedSlice ⟨2, ![2 ^ e.val, 256]⟩ ![2048 - 2 ^ e.val, 0] v (slices_tail e)⟩,
     ⟨⟨2, ![2048 - 2 ^ e.val, 256]⟩, extractStridedSlice ⟨2, ![2048 - 2 ^ e.val, 256]⟩ ![0, 0] v (slices_front e)⟩]
    (concatenates_down e)

/-- A mask of rows, on every lane. -/
def onLanes (b : IVec S2048x1 1) : IVec S2048x256 1 :=
  broadcastTo S2048x256 (shapeCast S2048x1 b shapeCasts_S2048x1_S2048x1) broadcasts_S2048x1_S2048x256

/-- The partner's row at distance `2 ^ e`. -/
def partnerRow (e : Fin 11) (v : FVec F S2048x256 .bf16) : FVec F S2048x256 .bf16 :=
  select (onLanes (bitClear e)) (rollUp e v) (rollDown e v)

/-- One compare-exchange stage at distance `2 ^ e`, in the direction `up`. -/
def stage (e : Fin 11) (up : IVec S2048x1 1) (v : FVec F S2048x256 .bf16) : FVec F S2048x256 .bf16 :=
  select (onLanes (xori (xori (bitClear e) up) (constantI S2048x1 1 1#1)))
    (minimumf v (partnerRow e v)) (maximumf v (partnerRow e v))

/-- The stages at distances `2 ^ (n - 1)`, …, `1`, in one direction. -/
def stages (up : IVec S2048x1 1) : (n : Nat) → n ≤ 11 → FVec F S2048x256 .bf16 → FVec F S2048x256 .bf16
  | 0, _, v => v
  | n + 1, h, v => stages up n (Nat.le_of_succ_le h) (stage ⟨n, h⟩ up v)

/-- The direction of each row in the merge of runs of length `2 ^ n`. -/
def direction (desc : BitVec 1) (n : Nat) : IVec S2048x1 1 := xori (bitClear n) (broadcast S2048x1 desc)

/-- The merges of runs of lengths `2`, …, `2 ^ n`. -/
def merges (desc : BitVec 1) : (n : Nat) → n ≤ 11 → FVec F S2048x256 .bf16 → FVec F S2048x256 .bf16
  | 0, _, v => v
  | n + 1, h, v => stages (direction desc (n + 1)) (n + 1) h (merges desc n (Nat.le_of_succ_le h) v)

/-- One direction for all rows. -/
def allRows (b : BitVec 1) : IVec S2048x1 1 := broadcastTo S2048x1 (broadcast S2048x1 b) broadcasts_S2048x1_S2048x1

/-- The smaller or the larger of two chunks. -/
def exchange (low : BitVec 1) (v w : FVec F S2048x256 .bf16) : FVec F S2048x256 .bf16 :=
  Scalar.select low (minimumf v w) (maximumf v w)

/-- A chunk as the leading-one block the scratch buffers hold. -/
def boxed (v : FVec F S2048x256 .bf16) : FVec F S1x2048x256 .bf16 :=
  shapeCast S1x2048x256 v shapeCasts_S2048x256_S1x2048x256

/-- A block read back as a chunk. -/
def unboxed (v : Vec F S1x2048x256 .bf16) : FVec F S2048x256 .bf16 :=
  shapeCast S2048x256 v shapeCasts_S1x2048x256_S2048x256

/-- A landed block read back as a chunk. -/
def unboxed4 (v : Vec F S1x1x2048x256 .bf16) : FVec F S2048x256 .bf16 :=
  shapeCast S2048x256 v shapeCasts_S1x1x2048x256_S2048x256

/-- The first phase: a chunk of the operand, rounded and sorted. -/
def presorted (desc : BitVec 1) (x : Vec F S2048x256 .f32) : FVec F S2048x256 .bf16 :=
  merges desc 11 (Nat.le_refl 11) (truncf .bf16 (shapeCast S2048x256 x shapeCasts_S2048x256_S2048x256) bitsLt_bf16_f32)

/-- The second phase: own and neighbour's chunks merged. -/
def merged (low up : BitVec 1) (v w : FVec F S2048x256 .bf16) : FVec F S2048x256 .bf16 :=
  stages (allRows up) 11 (Nat.le_refl 11) (exchange low v w)

/-- The third phase: the four devices' chunks (own, and of the peers at distances 1, 2, 3) merged. -/
def finished (low₂ low₁ : BitVec 1) (own p₁ p₂ p₃ : FVec F S2048x256 .bf16) : FVec F S2048x256 .bf16 :=
  stages (allRows 1#1) 11 (Nat.le_refl 11) (exchange low₁ (exchange low₂ own p₂) (exchange low₂ p₁ p₃))

/-! ## The loops' regions -/

section Regions

variable (arg0 : Memref sig .tc .vmem S2048x512 .f32) (harg0 : arg0.IsWhole)
  (arg1 : Memref sig .tc .vmem S2048x512 .bf16) (harg1 : arg1.IsWhole)
  (arg2 : Memref sig .tc .vmem S2x2048x256 .bf16) (harg2 : arg2.IsWhole)
  (arg3 : Memref sig .tc .vmem S2x2048x256 .bf16) (harg3 : arg3.IsWhole)
  (arg4 : Memref sig .tc .vmem S2x2048x256 .bf16) (harg4 : arg4.IsWhole)
  (arg5 : Memref sig .tc .vmem S2x3x2048x256 .bf16) (harg5 : arg5.IsWhole)
  (arg6 arg7 : DmaSems sig S4x2)

/-- The first loop's region: load a chunk, sort it, store it, and start the copy to the neighbour. -/
theorem body1_eq (d : Dev nD) (v3 : BitVec 32) (v14 : BitVec 1) (z : BitVec 32) (k : Fin k0_t1_loop.trips) :
    k0_t1_body (F := F) arg0 harg0 arg1 harg1 arg2 harg2 arg3 harg3 arg4 harg4 arg5 harg5 arg6 arg7 d v3 v14 rowNo z k ()
      = (do
        let x : Vec F S2048x256 .f32 ← Prog.lift (.load arg0 (Rect.unit (s := S2048x512) (k0_off1 k) S2048x256.size (k0_off1_inb k)).toLoadRect (View.loadsAt_vmem h_S2048x256))
        let _old : Vec F S1x2048x256 .bf16 ← Prog.lift (.load arg2 (Rect.unit (s := S2x2048x256) (k0_off2 k) S1x2048x256.size (k0_off2_inb k)).toLoadRect (View.loadsAt_vmem h_S1x2048x256))
        Prog.lift (.store arg2 (Rect.unit (s := S2x2048x256) (k0_off2 k) S1x2048x256.size (k0_off2_inb k)) (boxed (presorted v14 x)) Finset.univ (View.stores_vmem h_S1x2048x256 (harg2.storeExact_slice rfl _ (k0_off2_packedbf16 k)) (fun _ => rfl)) (.inl rfl))
        Prog.lift (.enqueueDma
          ((arg2.slice (Rect.unit (s := S2x2048x256) (k0_off4 k) S1x2048x256.size (k0_off4_inb k)) (fun _ => rfl)).squeeze S2048x256 squeezes_S1x2048x256_S2048x256)
          (.remote (Dev.tc (⟨k0_dev4 d, k0_dev4_lt d⟩ : Dev nD))
            ((arg3.slice (Rect.unit (s := S2x2048x256) (k0_off4 k) S1x2048x256.size (k0_off4_inb k)) (fun _ => rfl)).squeeze S2048x256 squeezes_S1x2048x256_S2048x256)
            (.dma ((arg6.slice (Rect.unit (s := S4x2) (k0_off3 k) S1x1.size (k0_off3_inb k))).squeeze S_ squeezes_S1x1_S_).sem))
          (.dma ((arg7.slice (Rect.unit (s := S4x2) (k0_off3 k) S1x1.size (k0_off3_inb k))).squeeze S_ squeezes_S1x1_S_).sem)
          ((harg2.wordExact_slice rfl _ (k0_off4_wordsbf16 k)).reshape _ _)
          ((harg3.wordExact_slice rfl _ (k0_off4_wordsbf16 k)).reshape _ _) ⟨⟨rfl, Or.inl rfl⟩, trivial⟩)
        pure ⟨⟩) := by
  sl_kernel_rfl

/-- The second loop's region: take the neighbour's chunk, merge, store, and start the three copies. -/
theorem body2_eq (d : Dev nD) (v3 v4 v5 : BitVec 32) (v16 v20 : BitVec 1) (k : Fin k0_t2_loop.trips) :
    k0_t2_body (F := F) arg0 harg0 arg1 harg1 arg2 harg2 arg3 harg3 arg4 harg4 arg5 harg5 arg6 arg7 d v3 v4 v5 v16 v20 rowNo k ()
      = (do
        Prog.lift (.waitDma2 ((arg7.slice (Rect.unit (s := S4x2) (k0_off5 k) S1x1.size (k0_off5_inb k))).squeeze S_ squeezes_S1x1_S_).sem
          ((arg2.slice (Rect.unit (s := S2x2048x256) (k0_off6 k) S1x2048x256.size (k0_off6_inb k)) (fun _ => rfl)).squeeze S2048x256 squeezes_S1x2048x256_S2048x256)
          ((arg3.slice (Rect.unit (s := S2x2048x256) (k0_off6 k) S1x2048x256.size (k0_off6_inb k)) (fun _ => rfl)).squeeze S2048x256 squeezes_S1x2048x256_S2048x256)
          ((harg2.wordExact_slice rfl _ (k0_off6_wordsbf16 k)).reshape _ _) ((harg3.wordExact_slice rfl _ (k0_off6_wordsbf16 k)).reshape _ _))
        let v : Vec F S1x2048x256 .bf16 ← Prog.lift (.load arg2 (Rect.unit (s := S2x2048x256) (k0_off7 k) S1x2048x256.size (k0_off7_inb k)).toLoadRect (View.loadsAt_vmem h_S1x2048x256))
        let w : Vec F S1x2048x256 .bf16 ← Prog.lift (.load arg3 (Rect.unit (s := S2x2048x256) (k0_off7 k) S1x2048x256.size (k0_off7_inb k)).toLoadRect (View.loadsAt_vmem h_S1x2048x256))
        let _old : Vec F S1x2048x256 .bf16 ← Prog.lift (.load arg4 (Rect.unit (s := S2x2048x256) (k0_off7 k) S1x2048x256.size (k0_off7_inb k)).toLoadRect (View.loadsAt_vmem h_S1x2048x256))
        Prog.lift (.store arg4 (Rect.unit (s := S2x2048x256) (k0_off7 k) S1x2048x256.size (k0_off7_inb k)) (boxed (merged v20 v16 (unboxed v) (unboxed w))) Finset.univ (View.stores_vmem h_S1x2048x256 (harg4.storeExact_slice rfl _ (k0_off7_packedbf16 k)) (fun _ => rfl)) (.inl rfl))
        Prog.lift (.enqueueDma
          ((arg4.slice (Rect.unit (s := S2x2048x256) (k0_off6 k) S1x2048x256.size (k0_off6_inb k)) (fun _ => rfl)).squeeze S2048x256 squeezes_S1x2048x256_S2048x256)
          (.remote (Dev.tc (⟨k0_dev5 d, k0_dev5_lt d⟩ : Dev nD))
            ((arg5.slice (Rect.unit (s := S2x3x2048x256) (k0_off9 k) S1x1x2048x256.size (k0_off9_inb k)) (fun _ => rfl)).squeeze S2048x256 squeezes_S1x1x2048x256_S2048x256)
            (.dma ((arg6.slice (Rect.unit (s := S4x2) (k0_off8 k) S1x1.size (k0_off8_inb k))).squeeze S_ squeezes_S1x1_S_).sem))
          (.dma ((arg7.slice (Rect.unit (s := S4x2) (k0_off8 k) S1x1.size (k0_off8_inb k))).squeeze S_ squeezes_S1x1_S_).sem)
          ((harg4.wordExact_slice rfl _ (k0_off6_wordsbf16 k)).reshape _ _)
          ((harg5.wordExact_slice rfl _ (k0_off9_wordsbf16 k)).reshape _ _) ⟨⟨rfl, Or.inl rfl⟩, trivial⟩)
        Prog.lift (.enqueueDma
          ((arg4.slice (Rect.unit (s := S2x2048x256) (k0_off6 k) S1x2048x256.size (k0_off6_inb k)) (fun _ => rfl)).squeeze S2048x256 squeezes_S1x2048x256_S2048x256)
          (.remote (Dev.tc (⟨k0_dev6 d, k0_dev6_lt d⟩ : Dev nD))
            ((arg5.slice (Rect.unit (s := S2x3x2048x256) (k0_off11 k) S1x1x2048x256.size (k0_off11_inb k)) (fun _ => rfl)).squeeze S2048x256 squeezes_S1x1x2048x256_S2048x256)
            (.dma ((arg6.slice (Rect.unit (s := S4x2) (k0_off10 k) S1x1.size (k0_off10_inb k))).squeeze S_ squeezes_S1x1_S_).sem))
          (.dma ((arg7.slice (Rect.unit (s := S4x2) (k0_off10 k) S1x1.size (k0_off10_inb k))).squeeze S_ squeezes_S1x1_S_).sem)
          ((harg4.wordExact_slice rfl _ (k0_off6_wordsbf16 k)).reshape _ _)
          ((harg5.wordExact_slice rfl _ (k0_off11_wordsbf16 k)).reshape _ _) ⟨⟨rfl, Or.inl rfl⟩, trivial⟩)
        Prog.lift (.enqueueDma
          ((arg4.slice (Rect.unit (s := S2x2048x256) (k0_off6 k) S1x2048x256.size (k0_off6_inb k)) (fun _ => rfl)).squeeze S2048x256 squeezes_S1x2048x256_S2048x256)
          (.remote (Dev.tc (⟨k0_dev7 d, k0_dev7_lt d⟩ : Dev nD))
            ((arg5.slice (Rect.unit (s := S2x3x2048x256) (k0_off13 k) S1x1x2048x256.size (k0_off13_inb k)) (fun _ => rfl)).squeeze S2048x256 squeezes_S1x1x2048x256_S2048x256)
            (.dma ((arg6.slice (Rect.unit (s := S4x2) (k0_off12 k) S1x1.size (k0_off12_inb k))).squeeze S_ squeezes_S1x1_S_).sem))
          (.dma ((arg7.slice (Rect.unit (s := S4x2) (k0_off12 k) S1x1.size (k0_off12_inb k))).squeeze S_ squeezes_S1x1_S_).sem)
          ((harg4.wordExact_slice rfl _ (k0_off6_wordsbf16 k)).reshape _ _)
          ((harg5.wordExact_slice rfl _ (k0_off13_wordsbf16 k)).reshape _ _) ⟨⟨rfl, Or.inl rfl⟩, trivial⟩)
        pure ⟨⟩) := by
  sl_kernel_rfl

/-- The third loop's region: take the three landed chunks, merge the four, and store the result's chunk. -/
theorem body3_eq (v3 v4 v5 : BitVec 32) (v22 v24 : BitVec 1) (k : Fin k0_t3_loop.trips) :
    k0_t3_body (F := F) arg0 harg0 arg1 harg1 arg2 harg2 arg3 harg3 arg4 harg4 arg5 harg5 arg6 arg7 v3 v4 v5 v22 v24 rowNo k ()
      = (do
        Prog.lift (.waitDma2 ((arg7.slice (Rect.unit (s := S4x2) (k0_off14 k) S1x1.size (k0_off14_inb k))).squeeze S_ squeezes_S1x1_S_).sem
          ((arg4.slice (Rect.unit (s := S2x2048x256) (k0_off16 k) S1x2048x256.size (k0_off16_inb k)) (fun _ => rfl)).squeeze S2048x256 squeezes_S1x2048x256_S2048x256)
          ((arg5.slice (Rect.unit (s := S2x3x2048x256) (k0_off15 k) S1x1x2048x256.size (k0_off15_inb k)) (fun _ => rfl)).squeeze S2048x256 squeezes_S1x1x2048x256_S2048x256)
          ((harg4.wordExact_slice rfl _ (k0_off16_wordsbf16 k)).reshape _ _) ((harg5.wordExact_slice rfl _ (k0_off15_wordsbf16 k)).reshape _ _))
        Prog.lift (.waitDma2 ((arg7.slice (Rect.unit (s := S4x2) (k0_off17 k) S1x1.size (k0_off17_inb k))).squeeze S_ squeezes_S1x1_S_).sem
          ((arg4.slice (Rect.unit (s := S2x2048x256) (k0_off16 k) S1x2048x256.size (k0_off16_inb k)) (fun _ => rfl)).squeeze S2048x256 squeezes_S1x2048x256_S2048x256)
          ((arg5.slice (Rect.unit (s := S2x3x2048x256) (k0_off18 k) S1x1x2048x256.size (k0_off18_inb k)) (fun _ => rfl)).squeeze S2048x256 squeezes_S1x1x2048x256_S2048x256)
          ((harg4.wordExact_slice rfl _ (k0_off16_wordsbf16 k)).reshape _ _) ((harg5.wordExact_slice rfl _ (k0_off18_wordsbf16 k)).reshape _ _))
        Prog.lift (.waitDma2 ((arg7.slice (Rect.unit (s := S4x2) (k0_off19 k) S1x1.size (k0_off19_inb k))).squeeze S_ squeezes_S1x1_S_).sem
          ((arg4.slice (Rect.unit (s := S2x2048x256) (k0_off16 k) S1x2048x256.size (k0_off16_inb k)) (fun _ => rfl)).squeeze S2048x256 squeezes_S1x2048x256_S2048x256)
          ((arg5.slice (Rect.unit (s := S2x3x2048x256) (k0_off20 k) S1x1x2048x256.size (k0_off20_inb k)) (fun _ => rfl)).squeeze S2048x256 squeezes_S1x1x2048x256_S2048x256)
          ((harg4.wordExact_slice rfl _ (k0_off16_wordsbf16 k)).reshape _ _) ((harg5.wordExact_slice rfl _ (k0_off20_wordsbf16 k)).reshape _ _))
        let p₁ : Vec F S1x1x2048x256 .bf16 ← Prog.lift (.load arg5 (Rect.unit (s := S2x3x2048x256) (k0_off21 k) S1x1x2048x256.size (k0_off21_inb k)).toLoadRect (View.loadsAt_vmem h_S1x1x2048x256))
        let p₂ : Vec F S1x1x2048x256 .bf16 ← Prog.lift (.load arg5 (Rect.unit (s := S2x3x2048x256) (k0_off22 k) S1x1x2048x256.size (k0_off22_inb k)).toLoadRect (View.loadsAt_vmem h_S1x1x2048x256))
        let p₃ : Vec F S1x1x2048x256 .bf16 ← Prog.lift (.load arg5 (Rect.unit (s := S2x3x2048x256) (k0_off23 k) S1x1x2048x256.size (k0_off23_inb k)).toLoadRect (View.loadsAt_vmem h_S1x1x2048x256))
        let own : Vec F S1x2048x256 .bf16 ← Prog.lift (.load arg4 (Rect.unit (s := S2x2048x256) (k0_off24 k) S1x2048x256.size (k0_off24_inb k)).toLoadRect (View.loadsAt_vmem h_S1x2048x256))
        let _old : Vec F S2048x256 .bf16 ← Prog.lift (.load arg1 (Rect.unit (s := S2048x512) (k0_off25 k) S2048x256.size (k0_off25_inb k)).toLoadRect (View.loadsAt_vmem h_S2048x256))
        Prog.lift (.store arg1 (Rect.unit (s := S2048x512) (k0_off25 k) S2048x256.size (k0_off25_inb k)) (finished v22 v24 (unboxed own) (unboxed4 p₁) (unboxed4 p₂) (unboxed4 p₃)) Finset.univ (View.stores_vmem h_S2048x256 (harg1.storeExact_slice rfl _ (k0_off25_packedbf16 k)) (fun _ => rfl)) (.inl rfl))
        pure ⟨⟩) := by
  sl_kernel_rfl

/-- The fourth loop's region: the four sends' waits. -/
theorem body4_eq (k : Fin k0_t4_loop.trips) :
    k0_t4_body (F := F) arg0 harg0 arg1 harg1 arg2 harg2 arg3 harg3 arg4 harg4 arg5 harg5 arg6 arg7 k ()
      = (do
        Prog.lift (.waitDma2 ((arg6.slice (Rect.unit (s := S4x2) (k0_off26 k) S1x1.size (k0_off26_inb k))).squeeze S_ squeezes_S1x1_S_).sem
          ((arg3.slice (Rect.unit (s := S2x2048x256) (k0_off27 k) S1x2048x256.size (k0_off27_inb k)) (fun _ => rfl)).squeeze S2048x256 squeezes_S1x2048x256_S2048x256)
          ((arg2.slice (Rect.unit (s := S2x2048x256) (k0_off27 k) S1x2048x256.size (k0_off27_inb k)) (fun _ => rfl)).squeeze S2048x256 squeezes_S1x2048x256_S2048x256)
          ((harg3.wordExact_slice rfl _ (k0_off27_wordsbf16 k)).reshape _ _) ((harg2.wordExact_slice rfl _ (k0_off27_wordsbf16 k)).reshape _ _))
        Prog.lift (.waitDma2 ((arg6.slice (Rect.unit (s := S4x2) (k0_off28 k) S1x1.size (k0_off28_inb k))).squeeze S_ squeezes_S1x1_S_).sem
          ((arg5.slice (Rect.unit (s := S2x3x2048x256) (k0_off29 k) S1x1x2048x256.size (k0_off29_inb k)) (fun _ => rfl)).squeeze S2048x256 squeezes_S1x1x2048x256_S2048x256)
          ((arg4.slice (Rect.unit (s := S2x2048x256) (k0_off27 k) S1x2048x256.size (k0_off27_inb k)) (fun _ => rfl)).squeeze S2048x256 squeezes_S1x2048x256_S2048x256)
          ((harg5.wordExact_slice rfl _ (k0_off29_wordsbf16 k)).reshape _ _) ((harg4.wordExact_slice rfl _ (k0_off27_wordsbf16 k)).reshape _ _))
        Prog.lift (.waitDma2 ((arg6.slice (Rect.unit (s := S4x2) (k0_off30 k) S1x1.size (k0_off30_inb k))).squeeze S_ squeezes_S1x1_S_).sem
          ((arg5.slice (Rect.unit (s := S2x3x2048x256) (k0_off31 k) S1x1x2048x256.size (k0_off31_inb k)) (fun _ => rfl)).squeeze S2048x256 squeezes_S1x1x2048x256_S2048x256)
          ((arg4.slice (Rect.unit (s := S2x2048x256) (k0_off27 k) S1x2048x256.size (k0_off27_inb k)) (fun _ => rfl)).squeeze S2048x256 squeezes_S1x2048x256_S2048x256)
          ((harg5.wordExact_slice rfl _ (k0_off31_wordsbf16 k)).reshape _ _) ((harg4.wordExact_slice rfl _ (k0_off27_wordsbf16 k)).reshape _ _))
        Prog.lift (.waitDma2 ((arg6.slice (Rect.unit (s := S4x2) (k0_off32 k) S1x1.size (k0_off32_inb k))).squeeze S_ squeezes_S1x1_S_).sem
          ((arg5.slice (Rect.unit (s := S2x3x2048x256) (k0_off33 k) S1x1x2048x256.size (k0_off33_inb k)) (fun _ => rfl)).squeeze S2048x256 squeezes_S1x1x2048x256_S2048x256)
          ((arg4.slice (Rect.unit (s := S2x2048x256) (k0_off27 k) S1x2048x256.size (k0_off27_inb k)) (fun _ => rfl)).squeeze S2048x256 squeezes_S1x2048x256_S2048x256)
          ((harg5.wordExact_slice rfl _ (k0_off33_wordsbf16 k)).reshape _ _) ((harg4.wordExact_slice rfl _ (k0_off27_wordsbf16 k)).reshape _ _))
        pure ⟨⟩) := by
  sl_kernel_rfl

end Regions

end Cert.KernelIdeal.Sort

end
-- ==== Proof.Slots.lean ====
/-
  The parts of the buffers the protocol speaks of: each scratch buffer cut into its chunks (one memref per slot, of the
  chunk's shape), the result's two halves, and what a load, a store and a copy do to a slot held at known contents.
-/
module

public import proofs.«01_k».proof.Proof.Stage
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.ViewIndex
public import Idealize.ShloMosaic.Lib.Tactic

@[expose] public section

noncomputable section

namespace Cert.KernelIdeal.Sort

open Cert.KernelIdeal Cert.KernelIdeal.Gen
open Idealize.ShloMosaic
open Idealize.ShloMosaic.TcCoe
open Idealize.ShloMosaic.Tactic
open Idealize.SL Idealize.SL.RA Idealize.SL.BI Idealize.SL.Sem
open scoped Idealize.SL.BI
open Idealize.SL.BI.BIBase Idealize.SL.BI.Laws
open Idealize.SL.ProofMode hiding frame
open Idealize.ShloMosaic.Rounds

variable {F : FTy → Type} [FloatOps F]

/-- The schedule's ghost state, beside the pipeline's. -/
abbrev UB : Type := URounds (GSem nD τ sig) (Fin 4)
abbrev UU : Type := UR sig nD τ × UB

local notation "𝕄" => MT nD τ sig Unit (Elt F) ℕ UU ℕ

abbrev 𝒱₀ : Variants := Variants.none

/-! ## The slots -/

abbrev xM : Memref sig .tc .vmem S2048x512 .f32 := Memref.whole cc0_stg0_0
abbrev oM : Memref sig .tc .vmem S2048x512 .bf16 := Memref.whole cc0_stg1_0
abbrev sM : Memref sig .tc .vmem S2x2048x256 .bf16 := Memref.whole cc0_scratch0
abbrev rM : Memref sig .tc .vmem S2x2048x256 .bf16 := Memref.whole cc0_scratch1
abbrev aM : Memref sig .tc .vmem S2x2048x256 .bf16 := Memref.whole cc0_scratch2
abbrev lM : Memref sig .tc .vmem S2x3x2048x256 .bf16 := Memref.whole cc0_scratch3

theorem inb2 : ∀ ch : Fin 2, ∀ a, (![0, 256 * ch.val] : Fin 2 → Nat) a + S2048x256.size a ≤ S2048x512.size a := by decide
theorem inb3 : ∀ ch : Fin 2, ∀ a, (![ch.val, 0, 0] : Fin 3 → Nat) a + S1x2048x256.size a ≤ S2x2048x256.size a := by decide
theorem inb4 : ∀ (ch : Fin 2) (j : Fin 3), ∀ a, (![ch.val, j.val, 0, 0] : Fin 4 → Nat) a + S1x1x2048x256.size a ≤ S2x3x2048x256.size a := by decide

/-- The columns of chunk `ch`. -/
abbrev rect2 (ch : Fin 2) : Rect S2048x512 := Rect.unit ![0, 256 * ch.val] S2048x256.size (inb2 ch)
/-- Chunk `ch` of a buffer of two chunks, -/
abbrev rect3 (ch : Fin 2) : Rect S2x2048x256 := Rect.unit ![ch.val, 0, 0] S1x2048x256.size (inb3 ch)
/-- and of the landing buffer, from the peer number `j`. -/
abbrev rect4 (ch : Fin 2) (j : Fin 3) : Rect S2x3x2048x256 := Rect.unit ![ch.val, j.val, 0, 0] S1x1x2048x256.size (inb4 ch j)

abbrev slot2 (M : Memref sig .tc .vmem S2048x512 .bf16) (ch : Fin 2) : Memref sig .tc .vmem S2048x256 .bf16 :=
  M.slice (rect2 ch) (fun _ => rfl)
abbrev slot3 (M : Memref sig .tc .vmem S2x2048x256 .bf16) (ch : Fin 2) : Memref sig .tc .vmem S2048x256 .bf16 :=
  (M.slice (rect3 ch) (fun _ => rfl)).squeeze S2048x256 squeezes_S1x2048x256_S2048x256
abbrev slot4 (M : Memref sig .tc .vmem S2x3x2048x256 .bf16) (ch : Fin 2) (j : Fin 3) : Memref sig .tc .vmem S2048x256 .bf16 :=
  (M.slice (rect4 ch j) (fun _ => rfl)).squeeze S2048x256 squeezes_S1x1x2048x256_S2048x256

/-- The credit of one chunk's copy, whatever the slot. -/
abbrev N : ℕ := (slot3 rM 0).view.dmaCredit
theorem N_pos : 0 < N := View.dmaCredit_pos _ (by decide)
theorem credit3 (M : Memref sig .tc .vmem S2x2048x256 .bf16) (ch : Fin 2) : (slot3 M ch).view.dmaCredit = N := rfl
theorem credit4 (M : Memref sig .tc .vmem S2x3x2048x256 .bf16) (ch : Fin 2) (j : Fin 3) : (slot4 M ch j).view.dmaCredit = N := rfl

/-- A slot held outright, at some contents. -/
abbrev anyAt (c : Dev nD) (M : Memref sig .tc .vmem S2048x256 .bf16) : sProp 𝕄 :=
  iprop(∃ u, owns (c : Thread nD τ) M fullShare u)

/-! ## Loads and stores of a slot -/

section Rules

variable (c : Dev nD) {α : Type}

theorem read_slot3 (M : Memref sig .tc .vmem S2x2048x256 .bf16) (ch : Fin 2) (f : M.view.ty.Contents (Elt F)) :
    unboxed (M.view.readAt (Elt F) (rect3 ch).toLoadRect f) = (slot3 M ch).view.read (Elt F) f := rfl
theorem read_slot4 (M : Memref sig .tc .vmem S2x3x2048x256 .bf16) (ch : Fin 2) (j : Fin 3) (f : M.view.ty.Contents (Elt F)) :
    unboxed4 (M.view.readAt (Elt F) (rect4 ch j).toLoadRect f) = (slot4 M ch j).view.read (Elt F) f := rfl
theorem read_store3 (M : Memref sig .tc .vmem S2x2048x256 .bf16) (ch : Fin 2) (f : M.view.ty.Contents (Elt F)) (w : FVec F S2048x256 .bf16) :
    (slot3 M ch).view.read (Elt F) ((M.access (rect3 ch)).write (Elt F) f (boxed w) Finset.univ) = w := by
  funext x
  show (M.view.slice (rect3 ch)).read (Elt F) ((M.view.slice (rect3 ch)).write (Elt F) f (boxed w) Finset.univ)
    (Shape.reshapeEquiv squeezes_S1x2048x256_S2048x256.numel_eq x) = w x
  rw [View.read_write_univ]
  show w (Shape.reshapeEquiv _ (Shape.reshapeEquiv _ x)) = w x
  congr 1
  exact (Shape.reshapeEquiv squeezes_S1x2048x256_S2048x256.numel_eq).symm_apply_apply x

theorem wp_load_slot3 {Q : α → sProp 𝕄} (M : Memref sig .tc .vmem S2x2048x256 .bf16) (ch : Fin 2)
    {off : Fin 3 → Nat} (ho : off = ![ch.val, 0, 0]) {inb : ∀ a, off a + S1x2048x256.size a ≤ S2x2048x256.size a}
    {hl : M.view.LoadsAt (Rect.unit (s := S2x2048x256) off S1x2048x256.size inb).toLoadRect}
    {k : Vec F S1x2048x256 .bf16 → Prog (TpuEff nD τ sig (Elt F) Λ₀ .tc) α} {q : PosShare TreeShare} {w : FVec F S2048x256 .bf16} :
    (owns (c : Thread nD τ) (slot3 M ch) q w : sProp 𝕄)
      ⊢ iprop((∀ v, ⌜unboxed v = w⌝ -∗ owns (c : Thread nD τ) (slot3 M ch) q w
            -∗ wp frame (wpE (defs₀ (F := F)) 𝒱₀ (c : Thread nD τ) none) Set.univ (k v) Q)
        -∗ wp frame (wpE (defs₀ (F := F)) 𝒱₀ (c : Thread nD τ) none) Set.univ (.op (.load M (Rect.unit (s := S2x2048x256) off S1x2048x256.size inb).toLoadRect hl) k) Q) := by
  subst ho
  unfold owns
  iintro ⟨%f, %hf, H⟩ Hk
  iapply (wp_load 𝒱₀ (c : Thread nD τ) none Set.univ (m := M) (r := (rect3 ch).toLoadRect) (S := (slot3 M ch).view.set) (f := f)
    (by rw [View.set_reshape]; exact (View.set_slice M.view (rect3 ch)).ge)) $$ H
  iintro H
  ihave Hk' := Hk $$ %(M.view.readAt (Elt F) (rect3 ch).toLoadRect f)
  iapply Hk' $$ [] [H]
  · ipureintro; rw [read_slot3]; exact hf
  · iexists f; isplitr; · ipureintro; exact hf
    iexact H

theorem wp_load_slot4 {Q : α → sProp 𝕄} (M : Memref sig .tc .vmem S2x3x2048x256 .bf16) (ch : Fin 2) (j : Fin 3)
    {off : Fin 4 → Nat} (ho : off = ![ch.val, j.val, 0, 0]) {inb : ∀ a, off a + S1x1x2048x256.size a ≤ S2x3x2048x256.size a}
    {hl : M.view.LoadsAt (Rect.unit (s := S2x3x2048x256) off S1x1x2048x256.size inb).toLoadRect}
    {k : Vec F S1x1x2048x256 .bf16 → Prog (TpuEff nD τ sig (Elt F) Λ₀ .tc) α} {q : PosShare TreeShare} {w : FVec F S2048x256 .bf16} :
    (owns (c : Thread nD τ) (slot4 M ch j) q w : sProp 𝕄)
      ⊢ iprop((∀ v, ⌜unboxed4 v = w⌝ -∗ owns (c : Thread nD τ) (slot4 M ch j) q w
            -∗ wp frame (wpE (defs₀ (F := F)) 𝒱₀ (c : Thread nD τ) none) Set.univ (k v) Q)
        -∗ wp frame (wpE (defs₀ (F := F)) 𝒱₀ (c : Thread nD τ) none) Set.univ (.op (.load M (Rect.unit (s := S2x3x2048x256) off S1x1x2048x256.size inb).toLoadRect hl) k) Q) := by
  subst ho
  unfold owns
  iintro ⟨%f, %hf, H⟩ Hk
  iapply (wp_load 𝒱₀ (c : Thread nD τ) none Set.univ (m := M) (r := (rect4 ch j).toLoadRect) (S := (slot4 M ch j).view.set) (f := f)
    (by rw [View.set_reshape]; exact (View.set_slice M.view (rect4 ch j)).ge)) $$ H
  iintro H
  ihave Hk' := Hk $$ %(M.view.readAt (Elt F) (rect4 ch j).toLoadRect f)
  iapply Hk' $$ [] [H]
  · ipureintro; rw [read_slot4]; exact hf
  · iexists f; isplitr; · ipureintro; exact hf
    iexact H

/-- A slot loaded for nothing and then overwritten. -/
theorem wp_store_slot3 {Q : α → sProp 𝕄} (M : Memref sig .tc .vmem S2x2048x256 .bf16) (ch : Fin 2)
    {off : Fin 3 → Nat} (ho : off = ![ch.val, 0, 0]) {inb : ∀ a, off a + S1x2048x256.size a ≤ S2x2048x256.size a}
    {hl : M.view.LoadsAt (Rect.unit (s := S2x2048x256) off S1x2048x256.size inb).toLoadRect} {w : FVec F S2048x256 .bf16}
    {hx : (M.access (Rect.unit (s := S2x2048x256) off S1x2048x256.size inb)).Stores Finset.univ} {hm : (Finset.univ : Finset (Rect.unit (s := S2x2048x256) off S1x2048x256.size inb).shape.Idx) = Finset.univ ∨ ∀ a, (Rect.unit (s := S2x2048x256) off S1x2048x256.size inb).stride a = 1}
    {k : PUnit → Prog (TpuEff nD τ sig (Elt F) Λ₀ .tc) α} :
    (anyAt c (slot3 M ch) : sProp 𝕄)
      ⊢ iprop((owns (c : Thread nD τ) (slot3 M ch) fullShare w
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load M (Rect.unit (s := S2x2048x256) off S1x2048x256.size inb).toLoadRect hl) fun _ => .op (.store M (Rect.unit (s := S2x2048x256) off S1x2048x256.size inb) (boxed w) Finset.univ hx hm) k) Q) := by
  subst ho
  unfold anyAt owns
  iintro ⟨%u, %f, -, H⟩ Hk
  iapply (wp_load 𝒱₀ (c : Thread nD τ) none Set.univ (m := M) (r := (rect3 ch).toLoadRect) (S := (slot3 M ch).view.set) (f := f)
    (by rw [View.set_reshape]; exact (View.set_slice M.view (rect3 ch)).ge)) $$ H
  iintro H
  iapply (wp_store 𝒱₀ (c : Thread nD τ) none Set.univ (m := M) (r := rect3 ch) (w := boxed w) (Mk := Finset.univ) (S := (slot3 M ch).view.set) (f := f)
    (by rw [View.set_reshape]; exact subset_rfl)) $$ H
  iintro H
  iapply Hk
  iexists _; isplitr
  · ipureintro; exact read_store3 M ch f w
  · iexact H

/-- The same of a half of the result. -/
theorem wp_store_slot2 {Q : α → sProp 𝕄} (M : Memref sig .tc .vmem S2048x512 .bf16) (ch : Fin 2)
    {off : Fin 2 → Nat} (ho : off = ![0, 256 * ch.val]) {inb : ∀ a, off a + S2048x256.size a ≤ S2048x512.size a}
    {hl : M.view.LoadsAt (Rect.unit (s := S2048x512) off S2048x256.size inb).toLoadRect} {w : FVec F S2048x256 .bf16}
    {hx : (M.access (Rect.unit (s := S2048x512) off S2048x256.size inb)).Stores Finset.univ} {hm : (Finset.univ : Finset (Rect.unit (s := S2048x512) off S2048x256.size inb).shape.Idx) = Finset.univ ∨ ∀ a, (Rect.unit (s := S2048x512) off S2048x256.size inb).stride a = 1}
    {k : PUnit → Prog (TpuEff nD τ sig (Elt F) Λ₀ .tc) α} :
    (anyAt c (slot2 M ch) : sProp 𝕄)
      ⊢ iprop((owns (c : Thread nD τ) (slot2 M ch) fullShare w
            -∗ wp frame (wpE (defs₀ (F := F)) 𝒱₀ (c : Thread nD τ) none) Set.univ (k ⟨⟩) Q)
        -∗ wp frame (wpE (defs₀ (F := F)) 𝒱₀ (c : Thread nD τ) none) Set.univ
            (.op (.load M (Rect.unit (s := S2048x512) off S2048x256.size inb).toLoadRect hl) fun _ => .op (.store M (Rect.unit (s := S2048x512) off S2048x256.size inb) w Finset.univ hx hm) k) Q) := by
  subst ho
  unfold anyAt owns
  iintro ⟨%u, %f, -, H⟩ Hk
  iapply (wp_load 𝒱₀ (c : Thread nD τ) none Set.univ (m := M) (r := (rect2 ch).toLoadRect) (S := (slot2 M ch).view.set) (f := f)
    (View.set_slice M.view (rect2 ch)).ge) $$ H
  iintro H
  iapply (wp_store 𝒱₀ (c : Thread nD τ) none Set.univ (m := M) (r := rect2 ch) (w := w) (Mk := Finset.univ) (S := (slot2 M ch).view.set) (f := f)
    subset_rfl) $$ H
  iintro H
  iapply Hk
  iexists _; isplitr
  · ipureintro; exact View.read_write_univ (v := M.view.slice (rect2 ch)) f w
  · iexact H

/-- The memref of an operand whose printed offsets come to a slot's. -/
theorem slot3_of (M : Memref sig .tc .vmem S2x2048x256 .bf16) (ch : Fin 2) {off : Fin 3 → Nat} (ho : off = ![ch.val, 0, 0])
    {inb : ∀ a, off a + S1x2048x256.size a ≤ S2x2048x256.size a} :
    (M.slice (Rect.unit (s := S2x2048x256) off S1x2048x256.size inb) (fun _ => rfl)).squeeze S2048x256 squeezes_S1x2048x256_S2048x256
      = slot3 M ch := by
  subst ho; rfl
theorem slot4_of (M : Memref sig .tc .vmem S2x3x2048x256 .bf16) (ch : Fin 2) (j : Fin 3) {off : Fin 4 → Nat} (ho : off = ![ch.val, j.val, 0, 0])
    {inb : ∀ a, off a + S1x1x2048x256.size a ≤ S2x3x2048x256.size a} :
    (M.slice (Rect.unit (s := S2x3x2048x256) off S1x1x2048x256.size inb) (fun _ => rfl)).squeeze S2048x256 squeezes_S1x1x2048x256_S2048x256
      = slot4 M ch j := by
  subst ho; rfl

end Rules

/-! ## Shares of a slot -/

/-- A slot's contents held at two shares that make one. -/
theorem owns_split (c : Dev nD) (M : Memref sig .tc .vmem S2048x256 .bf16) (q : PosShare TreeShare) (w : FVec F S2048x256 .bf16) :
    (owns (c : Thread nD τ) M q w : sProp 𝕄) ⊢ iprop(owns (c : Thread nD τ) M q.left w ∗ owns (c : Thread nD τ) M q.right w) := by
  unfold owns
  iintro ⟨%f, %hf, H⟩
  ihave H' := (pointsTo_share (PosShare.mem_left_op_right q)).1 $$ H
  icases H' with ⟨Hl, Hr⟩
  isplitl [Hl]
  · iexists f; isplitr; · ipureintro; exact hf
    iexact Hl
  · iexists f; isplitr; · ipureintro; exact hf
    iexact Hr

theorem owns_merge (c : Dev nD) (M : Memref sig .tc .vmem S2048x256 .bf16) (q : PosShare TreeShare) (w : FVec F S2048x256 .bf16) :
    iprop(owns (c : Thread nD τ) M q.left w ∗ owns (c : Thread nD τ) M q.right w) ⊢ (owns (c : Thread nD τ) M q w : sProp 𝕄) := by
  unfold owns
  iintro ⟨⟨%f, %hf, Hl⟩, ⟨%g, %hg, Hr⟩⟩
  have e : ∀ i ∈ M.view.set, g i = f i := fun i hi => by
    obtain ⟨x, -, rfl⟩ := Finset.mem_map.mp hi
    exact View.eq_of_read_eq (by rw [hf, hg])
  iexists f; isplitr; · ipureintro; exact hf
  iapply (pointsTo_share (PosShare.mem_left_op_right q)).2
  isplitl [Hl]; · iexact Hl
  ihave Hr' := (Entails.of_eq (pointsTo_congr e)) $$ Hr
  iexact Hr'

/-! ## A buffer as its slots -/

/-- Slots of one buffer, pairwise apart and together all of it: the buffer at any contents is the slots at any contents, -/
theorem any_split {T : Type} [Fintype T] [DecidableEq T] (c : Dev nD) (b : Ref sig .tc) (K : T → Memref sig .tc .vmem S2048x256 .bf16)
    (P : T → Finset (Idx ((c : Thread nD τ).loc b)))
    (hd : ∀ t t', t ≠ t' → Disjoint (P t) (P t')) (hc : Finset.univ.biUnion P = Finset.univ)
    (hK : ∀ t (f : Buf (Elt F) ((c : Thread nD τ).loc b)), (((c : Thread nD τ).loc b) ↦[P t]{fullShare} f : sProp 𝕄) ⊢ anyAt c (K t)) :
    iprop(∃ f : Buf (Elt F) ((c : Thread nD τ).loc b), ((c : Thread nD τ).loc b) ↦{fullShare} f) ⊢ (bigSep Finset.univ fun t => anyAt c (K t) : sProp 𝕄) := by
  iintro ⟨%f, H⟩
  ihave H' := (Entails.of_eq ((congrArg (fun S => (((c : Thread nD τ).loc b) ↦[S]{fullShare} f : sProp 𝕄)) hc.symm).trans
    (pointsTo_biUnion Finset.univ P fun t _ t' _ h => hd t t' h))) $$ H
  have hm : (bigSep Finset.univ fun t => (((c : Thread nD τ).loc b) ↦[P t]{fullShare} f : sProp 𝕄)) ⊢ bigSep Finset.univ fun t => anyAt c (K t) :=
    BI.bigSep_mono fun t _ => hK t f
  iapply hm; iexact H'

end Cert.KernelIdeal.Sort

end
-- ==== Proof.Schedule.lean ====
/-
  The protocol of the four devices. Every device tells its three peers, over the barrier semaphore, that they may write
  into its landing slots; a copy number `d` of a chunk then goes to the device at distance `d` (number 0, of the first
  phase, to the neighbour), and its two semaphores, one at each end, carry the slots it read and wrote. One round each.

  The values the copies carry are parameters here: `P c ch` of the first phase and `A c ch` of the second.
-/
module

public import proofs.«01_k».proof.Proof.Slots

@[expose] public section

noncomputable section

namespace Cert.KernelIdeal.Sort

open Cert.KernelIdeal Cert.KernelIdeal.Gen
open Idealize.ShloMosaic
open Idealize.ShloMosaic.TcCoe
open Idealize.ShloMosaic.Tactic
open Idealize.SL Idealize.SL.RA Idealize.SL.BI Idealize.SL.Sem
open scoped Idealize.SL.BI
open Idealize.SL.BI.BIBase Idealize.SL.BI.Laws
open Idealize.SL.ProofMode hiding frame
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers and cells -/

set_option backward.proofsInPublic true in
/-- The device whose number differs in the bits of `d`. -/
def peer (d : Fin 4) (c : Dev nD) : Dev nD := ⟨(c.val ^^^ d.val) % 4, Nat.mod_lt _ (by decide)⟩

theorem peer_peer (d : Fin 4) (c : Dev nD) : peer d (peer d c) = c := by revert d c; decide

/-- The distance copy `d` goes. -/
abbrev dist (d : Fin 4) : Fin 4 := if d = 0 then 1 else d
/-- The partner of copy `d`. -/
abbrev pal (d : Fin 4) (c : Dev nD) : Dev nD := peer (dist d) c

theorem dev1_eq (c : Dev nD) : (⟨k0_dev1 c, k0_dev1_lt c⟩ : Dev nD) = peer 1 c := Fin.ext (by revert c; decide +kernel)
theorem dev2_eq (c : Dev nD) : (⟨k0_dev2 c, k0_dev2_lt c⟩ : Dev nD) = peer 2 c := Fin.ext (by revert c; decide +kernel)
theorem dev3_eq (c : Dev nD) : (⟨k0_dev3 c, k0_dev3_lt c⟩ : Dev nD) = peer 3 c := Fin.ext (by revert c; decide +kernel)
theorem dev4_eq (c : Dev nD) : (⟨k0_dev4 c, k0_dev4_lt c⟩ : Dev nD) = pal 0 c := Fin.ext (by revert c; decide +kernel)
theorem dev5_eq (c : Dev nD) : (⟨k0_dev5 c, k0_dev5_lt c⟩ : Dev nD) = pal 1 c := Fin.ext (by revert c; decide +kernel)
theorem dev6_eq (c : Dev nD) : (⟨k0_dev6 c, k0_dev6_lt c⟩ : Dev nD) = pal 2 c := Fin.ext (by revert c; decide +kernel)
theorem dev7_eq (c : Dev nD) : (⟨k0_dev7 c, k0_dev7_lt c⟩ : Dev nD) = pal 3 c := Fin.ext (by revert c; decide +kernel)

abbrev barS : Sem sig := (SemArray.scalar (sig.barrier 0 rfl) : Sems sig S_).sem

set_option backward.proofsInPublic true in
/-- The semaphore copy `d` of chunk `ch` signals at its sender, -/
def sendS (d : Fin 4) (ch : Fin 2) : DmaSem sig := ⟨2 + 2 * d.val + ch.val, by have := d.isLt; have := ch.isLt; show _ < 18; omega⟩
set_option backward.proofsInPublic true in
/-- and at its receiver. -/
def recvS (d : Fin 4) (ch : Fin 2) : DmaSem sig := ⟨10 + 2 * d.val + ch.val, by have := d.isLt; have := ch.isLt; show _ < 18; omega⟩

/-- The semaphore a printed operand names, of four pairs laid from `base` on. -/
theorem sem_at (base : ℕ) (h : base + S4x2.numel ≤ 18) (d : Fin 4) (ch : Fin 2) {off : Fin 2 → Nat} (ho : off = ![d.val, ch.val])
    {inb : ∀ a, off a + S1x1.size a ≤ S4x2.size a} :
    ((((SemArray.consecutive base S4x2 h : DmaSems sig S4x2).slice (Rect.unit (s := S4x2) off S1x1.size inb)).squeeze S_ squeezes_S1x1_S_).sem).val
      = base + 2 * d.val + ch.val := by
  subst ho
  generalize hx : (Shape.reshapeEquiv squeezes_S1x1_S_.numel_eq (fun i : Fin 0 => i.elim0) : S1x1.Idx) = x
  show base + (S4x2.rowMajor ((Rect.unit (s := S4x2) ![d.val, ch.val] S1x1.size inb).emb (Shape.reshapeEquiv squeezes_S1x1_S_.numel_eq _))).val = _
  have e0 : (x 0).val = 0 := by have h0 : (x 0).val < 1 := (x 0).isLt; omega
  have e1 : (x 1).val = 0 := by have h1 : (x 1).val < 1 := (x 1).isLt; omega
  rw [hx, show (S4x2.rowMajor ((Rect.unit (s := S4x2) ![d.val, ch.val] S1x1.size inb).emb x)).val
      = (d.val + 1 * (x 0).val) * 2 + (ch.val + 1 * (x 1).val) from Shape.rowMajor_pair_val (d := ![4, 2])
        ((Rect.unit (s := S4x2) ![d.val, ch.val] S1x1.size inb).emb x 0) ((Rect.unit (s := S4x2) ![d.val, ch.val] S1x1.size inb).emb x 1) ▸ by
          congr 2; funext a; fin_cases a <;> rfl]
  omega
theorem sendS_of (d : Fin 4) (ch : Fin 2) {off : Fin 2 → Nat} (ho : off = ![d.val, ch.val]) {inb : ∀ a, off a + S1x1.size a ≤ S4x2.size a} :
    ((cc0_scratch4.slice (Rect.unit (s := S4x2) off S1x1.size inb)).squeeze S_ squeezes_S1x1_S_).sem = sendS d ch :=
  Fin.ext (sem_at 2 _ d ch ho)
theorem recvS_of (d : Fin 4) (ch : Fin 2) {off : Fin 2 → Nat} (ho : off = ![d.val, ch.val]) {inb : ∀ a, off a + S1x1.size a ≤ S4x2.size a} :
    ((cc0_scratch5.slice (Rect.unit (s := S4x2) off S1x1.size inb)).squeeze S_ squeezes_S1x1_S_).sem = recvS d ch :=
  Fin.ext (sem_at 10 _ d ch ho)

abbrev barCell (c : Dev nD) : GSem nD τ sig := ((c : Thread nD τ), .reg barS)
abbrev sendCell (c : Dev nD) (d : Fin 4) (ch : Fin 2) : GSem nD τ sig := ((c : Thread nD τ), .dma (sendS d ch))
abbrev recvCell (c : Dev nD) (d : Fin 4) (ch : Fin 2) : GSem nD τ sig := ((c : Thread nD τ), .dma (recvS d ch))

/-! ## What a copy reads, writes and carries -/

/-- The slot copy `d` of chunk `ch` reads, -/
def src (d : Fin 4) (ch : Fin 2) : Memref sig .tc .vmem S2048x256 .bf16 :=
  match d with | 0 => slot3 sM ch | 1 => slot3 aM ch | 2 => slot3 aM ch | 3 => slot3 aM ch
/-- and the one it writes at its receiver. -/
def dst (d : Fin 4) (ch : Fin 2) : Memref sig .tc .vmem S2048x256 .bf16 :=
  match d with | 0 => slot3 rM ch | 1 => slot4 lM ch 0 | 2 => slot4 lM ch 1 | 3 => slot4 lM ch 2
/-- The share of its source a copy holds while it flies; the first shares, `keep`, stay with the sender. -/
def lent (d : Fin 4) : PosShare TreeShare :=
  match d with | 0 => fullShare.right | 1 => fullShare.left.right | 2 => fullShare.right.left | 3 => fullShare.right.right

theorem credit_src (d : Fin 4) (ch : Fin 2) : (src d ch).view.dmaCredit = N := by fin_cases d <;> rfl
theorem credit_dst (d : Fin 4) (ch : Fin 2) : (dst d ch).view.dmaCredit = N := by fin_cases d <;> rfl

section Values

variable (P A : Dev nD → Fin 2 → FVec F S2048x256 .bf16)

/-- What copy `d` of chunk `ch` carries from device `c`. -/
def sent (d : Fin 4) (c : Dev nD) (ch : Fin 2) : FVec F S2048x256 .bf16 :=
  match d with | 0 => P c ch | 1 => A c ch | 2 => A c ch | 3 => A c ch

/-- With its barrier signal the device at distance `d` hands over the slots the copies to it will land in. -/
def barPay (c : Dev nD) (d : Fin 4) : sProp 𝕄 :=
  match d with
  | 1 => iprop(anyAt (peer 1 c) (dst 0 0) ∗ anyAt (peer 1 c) (dst 0 1) ∗ anyAt (peer 1 c) (dst 1 0) ∗ anyAt (peer 1 c) (dst 1 1))
  | 2 => iprop(anyAt (peer 2 c) (dst 2 0) ∗ anyAt (peer 2 c) (dst 2 1))
  | 3 => iprop(anyAt (peer 3 c) (dst 3 0) ∗ anyAt (peer 3 c) (dst 3 1))
  | 0 => iprop(emp)
/-- A copy that has landed, -/
def recvPay (c : Dev nD) (d : Fin 4) (ch : Fin 2) : sProp 𝕄 := owns (c : Thread nD τ) (dst d ch) fullShare (sent P A d (pal d c) ch)
/-- and the lent share of its source. -/
def sendPay (c : Dev nD) (d : Fin 4) (ch : Fin 2) : sProp 𝕄 := owns (c : Thread nD τ) (src d ch) (lent d) (sent P A d c ch)

omit [FloatOps F] in
instance barPay_storable (c : Dev nD) (d : Fin 4) : BI.Storable (upEmb : UEmb _ 𝕄) (barPay (F := F) c d) := by
  unfold barPay; split <;> infer_instance
instance recvPay_storable (c : Dev nD) (d : Fin 4) (ch : Fin 2) : BI.Storable (upEmb : UEmb _ 𝕄) (recvPay P A c d ch) := by unfold recvPay; infer_instance
instance sendPay_storable (c : Dev nD) (d : Fin 4) (ch : Fin 2) : BI.Storable (upEmb : UEmb _ 𝕄) (sendPay P A c d ch) := by unfold sendPay; infer_instance

/-! ## The schedule -/

set_option backward.proofsInPublic true in
/-- The copy and the chunk of a copy's semaphore. -/
def copyOf (q : DmaSem sig) : Fin 4 := ⟨(q.val - 2) / 2 % 4, Nat.mod_lt _ (by decide)⟩
set_option backward.proofsInPublic true in
def chunkOf (q : DmaSem sig) : Fin 2 := ⟨q.val % 2, Nat.mod_lt _ (by decide)⟩

def rd : Rounds.Schedule (GSem nD τ sig) (Fin 4) 𝕄 where
  duties g r := if r = 0 ∧ g.1.2 = .tc then (match g.2 with | .reg _ => {1, 2, 3} | .dma q => if 2 ≤ q.val then {0} else ∅) else ∅
  unitless _ := False
  amount g _ _ := match g.2 with | .reg _ => 1 | .dma _ => N
  payload g _ d := match g.2 with
    | .reg _ => barPay g.1.1 d
    | .dma q => if 10 ≤ q.val then recvPay P A g.1.1 (copyOf q) (chunkOf q) else sendPay P A g.1.1 (copyOf q) (chunkOf q)
  amount_pos g _ _ _ := by
    split
    · exact Nat.one_pos
    · exact N_pos

instance rd_storable (g : GSem nD τ sig) (r : ℕ) (d : Fin 4) : BI.Storable (upEmb : UEmb _ 𝕄) ((rd P A).payload g r d) := by
  dsimp only [rd]
  split
  · infer_instance
  · split <;> infer_instance

section Sched
variable (c : Dev nD) (d : Fin 4) (ch : Fin 2)

theorem duties_bar : (rd P A).duties (barCell c) 0 = {1, 2, 3} := by
  dsimp only [rd]; exact if_pos ⟨rfl, rfl⟩
theorem duties_send : (rd P A).duties (sendCell c d ch) 0 = {0} := by
  dsimp only [rd]; rw [if_pos ⟨rfl, rfl⟩]; exact if_pos (show 2 ≤ 2 + 2 * d.val + ch.val by omega)
theorem duties_recv : (rd P A).duties (recvCell c d ch) 0 = {0} := by
  dsimp only [rd]; rw [if_pos ⟨rfl, rfl⟩]; exact if_pos (show 2 ≤ 10 + 2 * d.val + ch.val by omega)
theorem duties_later (g : GSem nD τ sig) : ∀ r, 1 ≤ r → (rd P A).duties g r = ∅ := by
  intro r hr; dsimp only [rd]; exact if_neg fun h => by omega

theorem payload_bar : (rd P A).payload (barCell c) 0 d = barPay c d := rfl
theorem payload_send : (rd P A).payload (sendCell c d ch) 0 0 = sendPay P A c d ch := by fin_cases d <;> fin_cases ch <;> rfl
theorem payload_recv : (rd P A).payload (recvCell c d ch) 0 0 = recvPay P A c d ch := by fin_cases d <;> fin_cases ch <;> rfl

theorem expect_bar : (rd P A).expect (barCell c) 0 = 3 := by
  unfold Schedule.expect Schedule.amountOf; rw [duties_bar]; rfl
theorem expect_send : (rd P A).expect (sendCell c d ch) 0 = N := by
  unfold Schedule.expect Schedule.amountOf; rw [duties_send, Finset.sum_singleton]; rfl
theorem expect_recv : (rd P A).expect (recvCell c d ch) 0 = N := by
  unfold Schedule.expect Schedule.amountOf; rw [duties_recv, Finset.sum_singleton]; rfl

theorem rest_bar : bigSep ((rd P A).duties (barCell c) 0 \ ∅) (fun d => (rd P A).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton]
  rfl
theorem rest_send : bigSep ((rd P A).duties (sendCell c d ch) 0 \ ∅) (fun e => (rd P A).payload (sendCell c d ch) 0 e) = sendPay P A c d ch := by
  rw [Finset.sdiff_empty, duties_send, bigSep_singleton, payload_send]
theorem rest_recv : bigSep ((rd P A).duties (recvCell c d ch) 0 \ ∅) (fun e => (rd P A).payload (recvCell c d ch) 0 e) = recvPay P A c d ch := by
  rw [Finset.sdiff_empty, duties_recv, bigSep_singleton, payload_recv]

end Sched

end Values

/-! ## Debts and levels -/

/-- The first phase's copy of chunk `ch`, owed beside `O`; -/
def plusA (c : Dev nD) (ch : Fin 2) (O : CellTallies nD τ sig Unit) : CellTallies nD τ sig Unit :=
  O + tallyAt (recvCell (pal 0 c) 0 ch) () N
/-- the second phase's three. -/
def plusB (c : Dev nD) (ch : Fin 2) (O : CellTallies nD τ sig Unit) : CellTallies nD τ sig Unit :=
  O + tallyAt (recvCell (pal 3 c) 3 ch) () N + tallyAt (recvCell (pal 2 c) 2 ch) () N + tallyAt (recvCell (pal 1 c) 1 ch) () N

/-- What a device owes before trip `k` of the second loop, -/
def O₂ (c : Dev nD) : ℕ → CellTallies nD τ sig Unit
  | 0 => plusB c 0 (plusB c 1 0)
  | 1 => plusB c 1 0
  | _ => 0
/-- of the first, -/
def O₁ (c : Dev nD) : ℕ → CellTallies nD τ sig Unit
  | 0 => plusA c 0 (plusA c 1 (O₂ c 0))
  | 1 => plusA c 1 (O₂ c 0)
  | _ => O₂ c 0
/-- and at the start: a unit to each peer's barrier cell besides. -/
def O₀ (c : Dev nD) : CellTallies nD τ sig Unit :=
  O₁ c 0 + tallyAt (barCell (peer 3 c)) () 1 + tallyAt (barCell (peer 2 c)) () 1 + tallyAt (barCell (peer 1 c)) () 1

def L (g : GSem nD τ sig) : Finset Unit := if g.1.2 = .tc then {()} else ∅
/-- The pipeline's and the senders' cells lowest, the barrier above them, then the first phase's copies, then the second's. -/
def lv (g : GSem nD τ sig) (_ : Unit) : ℕ :=
  match g.2 with
  | .reg _ => 1
  | .dma q => if 12 ≤ q.val then 3 else if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is to cells above level `n`. -/
def Above (n : ℕ) (O : CellTallies nD τ sig Unit) : Prop := ∀ g u, 0 < O g u → u ∈ L g ∧ n < lv g u

theorem Above.zero (n : ℕ) : Above n 0 := fun _ _ h => absurd h (Nat.lt_irrefl 0)
theorem Above.add {n : ℕ} {O : CellTallies nD τ sig Unit} (hO : Above n O) {c : Dev nD} {sm : SemLoc sig} {k : ℕ} (hl : n < lv ((c : Thread nD τ), sm) ()) :
    Above n (O + tallyAt ((c : Thread nD τ), sm) () k) := by
  intro g u h
  rw [Pi.add_apply, Finsupp.add_apply, tallyAt_apply] at h
  by_cases hg : g = ((c : Thread nD τ), sm) ∧ u = ()
  · rw [hg.1, L_tc]; exact ⟨Finset.mem_singleton_self _, hl⟩
  · rw [if_neg hg, Nat.add_zero] at h; exact hO g u h

theorem lv_recv (c : Dev nD) (d : Fin 4) (ch : Fin 2) : lv (recvCell c d ch) () = if d = 0 then 2 else 3 := by
  fin_cases d <;> fin_cases ch <;> rfl

theorem above_plusB {n : ℕ} (hn : n < 3) (c : Dev nD) (ch : Fin 2) {O : CellTallies nD τ sig Unit} (h : Above n O) : Above n (plusB c ch O) :=
  ((h.add (by rw [lv_recv]; exact hn)).add (by rw [lv_recv]; exact hn)).add (by rw [lv_recv]; exact hn)
theorem above_plusA {n : ℕ} (hn : n < 2) (c : Dev nD) (ch : Fin 2) {O : CellTallies nD τ sig Unit} (h : Above n O) : Above n (plusA c ch O) :=
  h.add (by rw [lv_recv]; exact hn)
theorem above_O₂ {n : ℕ} (hn : n < 3) (c : Dev nD) : ∀ k, Above n (O₂ c k)
  | 0 => above_plusB hn c 0 (above_plusB hn c 1 (Above.zero n))
  | 1 => above_plusB hn c 1 (Above.zero n)
  | _ + 2 => Above.zero n
theorem above_O₁ {n : ℕ} (hn : n < 2) (c : Dev nD) : Above n (O₁ c 0) :=
  above_plusA hn c 0 (above_plusA hn c 1 (above_O₂ (by omega) c 0))
theorem above_O₀ (c : Dev nD) : Above 0 (O₀ c) :=
  (((above_O₁ (by decide) c).add Nat.one_pos).add Nat.one_pos).add Nat.one_pos

/-- A wait at or below the level everything owed is above. -/
theorem mayWait (c : Dev nD) (sm : SemLoc sig) (n : ℕ) (hs : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

/-! ## The facts every device keeps -/

/-- The copies' index: a copy and a chunk; the cells': the barrier, the senders', the receivers'. -/
abbrev KI : Type := Fin 4 × Fin 2
abbrev CI : Type := Unit ⊕ (KI ⊕ KI)

abbrev osem : KI ⊕ KI → SemLoc sig
  | .inl k => .dma (sendS k.1 k.2)
  | .inr k => .dma (recvS k.1 k.2)
abbrev csem : CI → SemLoc sig
  | .inl _ => .reg barS
  | .inr k => osem k
abbrev kcell (ck : Dev nD × CI) : GSem nD τ sig := ((ck.1 : Thread nD τ), csem ck.2)

section Facts

variable (P A : Dev nD → Fin 2 → FVec F S2048x256 .bf16)

/-- The invariants of all cells, that each has begun its one round, and the levels. -/
def facts (K : Dev nD × CI → ℕ) : sProp 𝕄 :=
  iprop((bigSep Finset.univ fun ck => iprop(cellInv ER (rd P A) (K ck) (kcell ck) ∗ reached ER (kcell ck) 0)) ∗ levAts L lv)

instance facts_persistent (K : Dev nD × CI → ℕ) : BI.Persistent (facts P A K) := by unfold facts; infer_instance

variable {P A} {K : Dev nD × CI → ℕ}

theorem facts_cell (ck : Dev nD × CI) : facts P A K ⊢ iprop(cellInv ER (rd P A) (K ck) (kcell ck) ∗ reached ER (kcell ck) 0) := by
  unfold facts
  iintro ⟨H, -⟩
  have h : (bigSep Finset.univ fun ck => iprop(cellInv ER (rd P A) (K ck) (kcell ck) ∗ reached ER (kcell ck) 0) : sProp 𝕄)
      ⊢ iprop(cellInv ER (rd P A) (K ck) (kcell ck) ∗ reached ER (kcell ck) 0) := BI.bigSep_elim (Finset.mem_univ ck)
  iapply h; iexact H
theorem facts_lev : facts P A K ⊢ (levAts L lv : sProp 𝕄) := by
  unfold facts
  iintro ⟨-, H⟩; iexact H

end Facts

end Cert.KernelIdeal.Sort

end
-- ==== Proof.Trips.lean ====
/-
  One trip of each of the kernel's four loops, on the resources of its chunk: the first sorts the chunk and sends it to
  the neighbour, the second takes the neighbour's, merges and sends to all peers, the third takes theirs and writes the
  result, the fourth waits for the sends.
-/
module

public import proofs.«01_k».proof.Proof.Schedule
public import Idealize.ShloMosaic.Lib.Scf

@[expose] public section

noncomputable section

namespace Cert.KernelIdeal.Sort

open Cert.KernelIdeal Cert.KernelIdeal.Gen
open Idealize.ShloMosaic
open Idealize.ShloMosaic.TcCoe
open Idealize.ShloMosaic.Tactic
open Idealize.SL Idealize.SL.RA Idealize.SL.BI Idealize.SL.Sem
open scoped Idealize.SL.BI
open Idealize.SL.BI.BIBase Idealize.SL.BI.Laws
open Idealize.SL.ProofMode hiding frame
open Idealize.ShloMosaic.Rounds

variable {F : FTy → Type} [FloatOps F]

local notation "𝕄" => MT nD τ sig Unit (Elt F) ℕ UU ℕ

/-- What device `c` owes, whatever it has waited for. -/
abbrev owing (c : Dev nD) (O : CellTallies nD τ sig Unit) : sProp 𝕄 := iprop(∃ W, owes (c : Thread nD τ) O W)

/-- What device `c` holds of copy `d` of chunk `ch`, the one it sends and the one it receives, before either starts; -/
def copy (c : Dev nD) (d : Fin 4) (ch : Fin 2) : sProp 𝕄 :=
  iprop(dutyTok ER (sendCell c d ch) 0 0 ∗ dutyTok ER (recvCell (pal d c) d ch) 0 0
    ∗ atPos ER (sendCell c d ch) 0 ∅ 0 ∗ atPos ER (recvCell c d ch) 0 ∅ 0 ∗ cred (tallyAt (recvCell c d ch) () N))
/-- with its own copy sent, -/
def flying (c : Dev nD) (d : Fin 4) (ch : Fin 2) : sProp 𝕄 :=
  iprop(cred (tallyAt (sendCell c d ch) () N) ∗ atPos ER (sendCell c d ch) 0 ∅ 0 ∗ atPos ER (recvCell c d ch) 0 ∅ 0
    ∗ cred (tallyAt (recvCell c d ch) () N))
/-- with its partner's received, -/
def landed (c : Dev nD) (d : Fin 4) (ch : Fin 2) : sProp 𝕄 :=
  iprop(cred (tallyAt (sendCell c d ch) () N) ∗ atPos ER (sendCell c d ch) 0 ∅ 0 ∗ atPos ER (recvCell c d ch) (0 + 1) ∅ 0)
/-- and with both done. -/
def closed (c : Dev nD) (d : Fin 4) (ch : Fin 2) : sProp 𝕄 := iprop(semVal (sendCell c d ch) 0 ∗ semVal (recvCell c d ch) 0)

section Rules

variable {P A : Dev nD → Fin 2 → FVec F S2048x256 .bf16} {K : Dev nD × CI → ℕ} (c : Dev nD)

/-- The start of a copy. -/
theorem wp_send_copy (d : Fin 4) (ch : Fin 2) {n : Dev nD} (hn : n = pal d c) {s t : Memref sig .tc .vmem S2048x256 .bf16} (hs : s = src d ch) (ht : t = dst d ch)
    {sS sR : DmaSem sig} (hS : sS = sendS d ch) (hR : sR = recvS d ch)
    {hsc : (t : Memref sig (Dev.tc n : Thread nD τ).2.kind .vmem S2048x256 .bf16).view.ref.isScScratch = false}
    {hsrc : s.view.WordExact} {hdst : t.view.WordExact}
    {hsem : DmaTarget.Typed .vmem (.dma sR) (.remote (Dev.tc n : Thread nD τ) t (.dma sS) hsc)}
    {α : Type} {Q : α → sProp 𝕄} {k : PUnit → Prog (TpuEff nD τ sig (Elt F) Λ₀ .tc) α} {O : CellTallies nD τ sig Unit} :
    iprop(facts P A K ∗ sendPay P A c d ch ∗ anyAt (pal d c) (dst d ch)
        ∗ owing c (O + tallyAt (recvCell (pal d c) d ch) () N)
        ∗ dutyTok ER (sendCell c d ch) 0 0 ∗ dutyTok ER (recvCell (pal d c) d ch) 0 0)
      ⊢ iprop(((cred (tallyAt (sendCell c d ch) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma s (.remote (Dev.tc n : Thread nD τ) t (.dma sS) hsc) (.dma sR) hsrc hdst hsem) k) Q) := by
  subst hn hs ht hS hR
  unfold sendPay anyAt owns
  iintro ⟨#Hf, ⟨%f, %hf, Hs⟩, ⟨%u, %g, -, Hd⟩, ⟨%W, HO⟩, Ht1, Ht2⟩ Hk
  ihave H1 := (facts_cell (c, .inr (.inl (d, ch)))) $$ Hf
  icases H1 with ⟨#HI1, #HR1⟩
  ihave H2 := (facts_cell (pal d c, .inr (.inr (d, ch)))) $$ Hf
  icases H2 with ⟨#HI2, #HR2⟩
  iapply (Rounds.wp_send_pointsTo 𝒱₀ ER (rd P A) (c : Thread nD τ) none (κ₁ := K (c, .inr (.inl (d, ch)))) (κ₂ := K (pal d c, .inr (.inr (d, ch))))
    (r₁ := 0) (r₂ := 0) (d₁ := 0) (d₂ := 0) (fs := f) (fd := g)
    (by rw [duties_send]; exact Finset.mem_singleton_self _) (by rw [duties_recv]; exact Finset.mem_singleton_self _)
    () () N (show (dst d ch).view.amount (.dma (recvS d ch)) = N from credit_dst d ch) rfl rfl O rfl (W := W)
    (by rw [payload_send]; unfold sendPay owns; iintro H; iexists f; isplitr; · (ipureintro; exact hf)
        iexact H)
    (by rw [payload_recv]; unfold recvPay owns; iintro H; iexists ((dst d ch).view.write (Elt F) g ((src d ch).view.read (Elt F) f) Finset.univ); isplitr
        · ipureintro; rw [View.read_write_univ, hf, show pal d (pal d c) = c from peer_peer _ _]
        · iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-- The wait for a partner's copy, owing nothing that is not above it. -/
theorem wp_wait_recv (d : Fin 4) (ch : Fin 2) {sR : DmaSem sig} (hR : sR = recvS d ch) {s t : Memref sig .tc .vmem S2048x256 .bf16} (ht : t = dst d ch)
    {hsrc : s.view.WordExact} {hdst : t.view.WordExact} {O : CellTallies nD τ sig Unit} {n : ℕ} (hl : lv (recvCell c d ch) () ≤ n) (hO : Above n O)
    {α : Type} {Q : α → sProp 𝕄} {k : PUnit → Prog (TpuEff nD τ sig (Elt F) Λ₀ .tc) α} :
    iprop(facts P A K ∗ flying c d ch ∗ owing c O)
      ⊢ iprop(((landed c d ch ∗ recvPay P A c d ch ∗ owing c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR s t hsrc hdst) k) Q) := by
  subst hR ht
  unfold flying landed
  iintro ⟨#Hf, ⟨HcS, HatS, HatR, HcR⟩, ⟨%W, HO⟩⟩ Hk
  ihave H1 := (facts_cell (c, .inr (.inr (d, ch)))) $$ Hf
  icases H1 with ⟨#HI, -⟩
  ihave Hl := facts_lev $$ Hf
  iapply (Rounds.wp_wait_rest_token 𝒱₀ ER (rd P A) (c : Thread nD τ) none (κ := K (c, .inr (.inr (d, ch))))
      (wpE_waitDma2_eq 𝒱₀ (c : Thread nD τ) none Set.univ) (Set.mem_univ _) () (O := O) (W := W) (R := 0) (m := 0) (T := ∅)
      (by rw [Nat.zero_add, credit_dst, expect_recv])) $$ [HcR HO HatR]
  · isplitr; · iexact HI
    isplitl [HcR]; · rw [credit_dst]; iexact HcR
    isplitl [HO]; · iexact HO
    isplitr; · iapply (mayWait c (.dma (recvS d ch)) n hl hO); iexact Hl
    iexact HatR
  iintro ⟨HO, HatR, -, Hpay⟩
  ihave Hp := (Entails.of_eq (rest_recv P A c d ch)) $$ Hpay
  iapply Hk
  isplitl [HcS HatS HatR]
  · isplitl [HcS]; · iexact HcS
    isplitl [HatS]; · iexact HatS
    iexact HatR
  isplitl [Hp]; · iexact Hp
  iexists _; iexact HO

/-- The wait for one's own copy, with nothing owed; the two semaphores are then back at zero. -/
theorem wp_wait_send (d : Fin 4) (ch : Fin 2) {sS : DmaSem sig} (hS : sS = sendS d ch) {s t : Memref sig .tc .vmem S2048x256 .bf16} (ht : t = src d ch)
    {hsrc : s.view.WordExact} {hdst : t.view.WordExact}
    {α : Type} {Q : α → sProp 𝕄} {k : PUnit → Prog (TpuEff nD τ sig (Elt F) Λ₀ .tc) α} :
    iprop(facts P A K ∗ landed c d ch ∗ owing c 0)
      ⊢ iprop(((closed c d ch ∗ sendPay P A c d ch ∗ owing c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS s t hsrc hdst) k) Q) := by
  subst hS ht
  unfold landed closed
  iintro ⟨#Hf, ⟨HcS, HatS, HatR⟩, ⟨%W, HO⟩⟩ Hk
  ihave H1 := (facts_cell (c, .inr (.inl (d, ch)))) $$ Hf
  icases H1 with ⟨#HI, -⟩
  ihave H2 := (facts_cell (c, .inr (.inr (d, ch)))) $$ Hf
  icases H2 with ⟨#HI', -⟩
  iapply (Rounds.wp_wait_rest_token 𝒱₀ ER (rd P A) (c : Thread nD τ) none (κ := K (c, .inr (.inl (d, ch))))
      (wpE_waitDma2_eq 𝒱₀ (c : Thread nD τ) none Set.univ) (Set.mem_univ _) () (O := 0) (W := W) (R := 0) (m := 0) (T := ∅)
      (by rw [Nat.zero_add, credit_src, expect_send])) $$ [HcS HO HatS]
  · isplitr; · iexact HI
    isplitl [HcS]; · rw [credit_src]; iexact HcS
    isplitl [HO]; · iexact HO
    isplitr; · rw [MayWait_zero]; iempintro
    iexact HatS
  iintro ⟨HO, HatS, -, Hpay⟩
  ihave Hp := (Entails.of_eq (rest_send P A c d ch)) $$ Hpay
  imod (Rounds.cell_close ER (rd P A) (Set.mem_univ (K (c, .inr (.inl (d, ch))))) (fun h => h) (R := 0 + 1) (duties_later P A (sendCell c d ch))) $$ [HatS] with HzS
  · isplitr; · iexact HI
    iexact HatS
  imod (Rounds.cell_close ER (rd P A) (Set.mem_univ (K (c, .inr (.inr (d, ch))))) (fun h => h) (R := 0 + 1) (duties_later P A (recvCell c d ch))) $$ [HatR] with HzR
  · isplitr; · iexact HI'
    iexact HatR
  iapply Hk
  isplitl [HzS HzR]
  · isplitl [HzS] <;> iassumption
  isplitl [Hp]; · iexact Hp
  iexists _; iexact HO

/-- A loop of two trips, each on its own chunk's resources. -/
theorem wp_loop2 {w : ℕ} {lb ub st : BitVec w} (hok : Scf.OK lb ub st) (ht : Scf.trips lb ub st = 2)
    (body : Fin (Scf.trips lb ub st) → Unit → Prog (TpuEff nD τ sig (Elt F) Λ₀ .tc) Unit) (X : ℕ → sProp 𝕄) (Pre Post : Fin 2 → sProp 𝕄)
    (h : ∀ (ch : Fin 2) (k : Fin (Scf.trips lb ub st)), k.val = ch.val → ∀ Q : Unit → sProp 𝕄,
      iprop(X ch.val ∗ Pre ch) ⊢ iprop(((X (ch.val + 1) ∗ Post ch) -∗ Q ())
        -∗ wp frame (wpE (defs₀ (F := F)) 𝒱₀ (c : Thread nD τ) none) Set.univ (body k ()) Q))
    {β : Type} {kk : Unit → Prog (TpuEff nD τ sig (Elt F) Λ₀ .tc) β} {Q : β → sProp 𝕄} :
    iprop(X 0 ∗ Pre 0 ∗ Pre 1)
      ⊢ iprop(((X 2 ∗ Post 0 ∗ Post 1) -∗ wp frame (wpE (defs₀ (F := F)) 𝒱₀ (c : Thread nD τ) none) Set.univ (kk ()) Q)
        -∗ wp frame (wpE (defs₀ (F := F)) 𝒱₀ (c : Thread nD τ) none) Set.univ (Scf.for lb ub st hok () body >>= kk) Q) := by
  let I : ℕ → Unit → sProp 𝕄 := fun k _ =>
    match k with
    | 0 => iprop(X 0 ∗ Pre 0 ∗ Pre 1)
    | 1 => iprop(X 1 ∗ Post 0 ∗ Pre 1)
    | _ => iprop(X 2 ∗ Post 0 ∗ Post 1)
  have hI : ∀ (k : Fin (Scf.trips lb ub st)) (acc : Unit), I k.val acc
      ⊢ wp frame (wpE (defs₀ (F := F)) 𝒱₀ (c : Thread nD τ) none) Set.univ (body k acc) (I (k.val + 1)) := by
    rintro ⟨k, hk⟩ ⟨⟩
    obtain rfl | rfl : k = 0 ∨ k = 1 := by omega
    · show iprop(X 0 ∗ Pre 0 ∗ Pre 1) ⊢ wp frame (wpE (defs₀ (F := F)) 𝒱₀ (c : Thread nD τ) none) Set.univ (body ⟨0, hk⟩ ()) fun _ => iprop(X 1 ∗ Post 0 ∗ Pre 1)
      iintro ⟨HX, H0, H1⟩
      have h' : ∀ Q : Unit → sProp 𝕄, iprop(X 0 ∗ Pre 0) ⊢ iprop(((X 1 ∗ Post 0) -∗ Q ())
          -∗ wp frame (wpE (defs₀ (F := F)) 𝒱₀ (c : Thread nD τ) none) Set.univ (body ⟨0, hk⟩ ()) Q) := h 0 ⟨0, hk⟩ rfl
      iapply (h' _) $$ [HX H0]
      · isplitl [HX] <;> iassumption
      iintro ⟨HX, H0⟩
      isplitl [HX]; · iexact HX
      isplitl [H0] <;> iassumption
    · show iprop(X 1 ∗ Post 0 ∗ Pre 1) ⊢ wp frame (wpE (defs₀ (F := F)) 𝒱₀ (c : Thread nD τ) none) Set.univ (body ⟨1, hk⟩ ()) fun _ => iprop(X 2 ∗ Post 0 ∗ Post 1)
      iintro ⟨HX, H0, H1⟩
      have h' : ∀ Q : Unit → sProp 𝕄, iprop(X 1 ∗ Pre 1) ⊢ iprop(((X 2 ∗ Post 1) -∗ Q ())
          -∗ wp frame (wpE (defs₀ (F := F)) 𝒱₀ (c : Thread nD τ) none) Set.univ (body ⟨1, hk⟩ ()) Q) := h 1 ⟨1, hk⟩ rfl
      iapply (h' _) $$ [HX H1]
      · isplitl [HX] <;> iassumption
      iintro ⟨HX, H1⟩
      isplitl [HX]; · iexact HX
      isplitl [H0] <;> iassumption
  have hfor := Scf.wp_for_bind (Fr := frame) (wpE := wpE (defs₀ (F := F)) 𝒱₀ (c : Thread nD τ) none) (Es := Set.univ) lb ub st hok () body I hI (kk := kk) (Q := Q)
  rw [ht] at hfor
  iintro H Hk
  iapply hfor $$ H
  iintro %acc H
  iapply Hk; iexact H

end Rules

/-! ## The trips -/

/-- The chunk of `x` the first loop's trip loads. -/
def chunk (x : (cc0_stg0_0 : Ref sig .tc).ty.Contents (Elt F)) (ch : Fin 2) : Vec F S2048x256 .f32 :=
  (xM : Memref sig .tc .vmem S2048x512 .f32).view.readAt (Elt F) (rect2 ch).toLoadRect x

theorem chunk_of (x : (cc0_stg0_0 : Ref sig .tc).ty.Contents (Elt F)) (ch : Fin 2) {off : Fin 2 → Nat} (ho : off = ![0, 256 * ch.val])
    {inb : ∀ a, off a + S2048x256.size a ≤ S2048x512.size a} :
    (xM : Memref sig .tc .vmem S2048x512 .f32).view.readAt (Elt F) (Rect.unit (s := S2048x512) off S2048x256.size inb).toLoadRect x = chunk x ch := by
  subst ho; rfl

theorem O₁_step (c : Dev nD) (ch : Fin 2) : O₁ c ch.val = O₁ c (ch.val + 1) + tallyAt (recvCell (pal 0 c) 0 ch) () N := by
  fin_cases ch <;> rfl
theorem O₂_step (c : Dev nD) (ch : Fin 2) : O₂ c ch.val = plusB c ch (O₂ c (ch.val + 1)) := by fin_cases ch <;> rfl

section Trips

variable {P A : Dev nD → Fin 2 → FVec F S2048x256 .bf16} {K : Dev nD × CI → ℕ} (c : Dev nD)

/-- What threads the loops. -/
def thread (P A : Dev nD → Fin 2 → FVec F S2048x256 .bf16) (K : Dev nD × CI → ℕ) (x : (cc0_stg0_0 : Ref sig .tc).ty.Contents (Elt F))
    (O : CellTallies nD τ sig Unit) : sProp 𝕄 :=
  iprop(facts P A K ∗ owing c O ∗ (((c : Thread nD τ).loc cc0_stg0_0) ↦{fullShare} x))

def pre₁ (ch : Fin 2) : sProp 𝕄 := iprop(copy c 0 ch ∗ anyAt c (slot3 sM ch) ∗ anyAt (pal 0 c) (dst 0 ch))
def post₁ (P : Dev nD → Fin 2 → FVec F S2048x256 .bf16) (ch : Fin 2) : sProp 𝕄 :=
  iprop(flying c 0 ch ∗ owns (c : Thread nD τ) (slot3 sM ch) fullShare.left (P c ch))

theorem trip1 (x : (cc0_stg0_0 : Ref sig .tc).ty.Contents (Elt F)) (v3 : BitVec 32) (v14 : BitVec 1) (z : BitVec 32)
    (hP : ∀ ch, P c ch = presorted v14 (chunk x ch)) (ch : Fin 2) (k : Fin k0_t1_loop.trips) (hk : k.val = ch.val) (Q : Unit → sProp 𝕄) :
    iprop(thread c P A K x (O₁ c ch.val) ∗ pre₁ c ch)
      ⊢ iprop(((thread c P A K x (O₁ c (ch.val + 1)) ∗ post₁ c P ch) -∗ Q ())
        -∗ wp frame (wpE (defs₀ (F := F)) 𝒱₀ (c : Thread nD τ) none) Set.univ
          (k0_t1_body xM (Memref.isWhole_whole _) oM (Memref.isWhole_whole _) sM (Memref.isWhole_whole _) rM (Memref.isWhole_whole _)
            aM (Memref.isWhole_whole _) lM (Memref.isWhole_whole _) cc0_scratch4 cc0_scratch5 c v3 v14 rowNo z k ()) Q) := by
  rw [body1_eq]
  simp only [Prog.lift, Prog.bind_op, Prog.bind_ret, Prog.pure_eq_ret]
  unfold thread pre₁ post₁
  iintro ⟨⟨#Hf, HO, Hx⟩, ⟨Hcp, Hs, Hr⟩⟩ HQ
  iapply (wp_load 𝒱₀ (c : Thread nD τ) none Set.univ (m := xM) (Finset.subset_univ _)) $$ Hx; iintro Hx
  rw [chunk_of x ch ((k0_off1_eq k).trans (by rw [hk])), ← hP ch]
  iapply (wp_store_slot3 c sM ch (w := P c ch) ((k0_off2_eq k).trans (by rw [hk]))) $$ Hs
  iintro Hs
  ihave Hs' := (owns_split c (slot3 sM ch) fullShare (P c ch)) $$ Hs
  icases Hs' with ⟨Hl, Hrt⟩
  rw [O₁_step]
  unfold copy
  icases Hcp with ⟨Ht1, Ht2, HatS, HatR, HcR⟩
  iapply (wp_send_copy c 0 ch (dev4_eq c) (slot3_of sM ch ((k0_off4_eq k).trans (by rw [hk]))) (slot3_of rM ch ((k0_off4_eq k).trans (by rw [hk])))
    (sendS_of 0 ch ((k0_off3_eq k).trans (by rw [hk]; rfl))) (recvS_of 0 ch ((k0_off3_eq k).trans (by rw [hk]; rfl)))) $$ [Hrt Hr HO Ht1 Ht2]
  · isplitr; · iexact Hf
    isplitl [Hrt]; · unfold sendPay src lent sent; iexact Hrt
    isplitl [Hr]; · iexact Hr
    isplitl [HO]; · iexact HO
    isplitl [Ht1] <;> iassumption
  iintro ⟨HcS, HO⟩
  rw [wp_ret]; imodintro
  iapply HQ
  isplitl [HO Hx]
  · isplitr; · iexact Hf
    isplitl [HO] <;> iassumption
  isplitr [Hl]
  · unfold flying
    isplitl [HcS]; · iexact HcS
    isplitl [HatS]; · iexact HatS
    isplitl [HatR] <;> iassumption
  · iexact Hl

def pre₂ (P : Dev nD → Fin 2 → FVec F S2048x256 .bf16) (ch : Fin 2) : sProp 𝕄 :=
  iprop(post₁ c P ch ∗ (copy c 1 ch ∗ copy c 2 ch ∗ copy c 3 ch) ∗ anyAt c (slot3 aM ch)
    ∗ anyAt (pal 1 c) (dst 1 ch) ∗ anyAt (pal 2 c) (dst 2 ch) ∗ anyAt (pal 3 c) (dst 3 ch))
def post₂ (P A : Dev nD → Fin 2 → FVec F S2048x256 .bf16) (ch : Fin 2) : sProp 𝕄 :=
  iprop((landed c 0 ch ∗ owns (c : Thread nD τ) (slot3 sM ch) fullShare.left (P c ch) ∗ owns (c : Thread nD τ) (slot3 rM ch) fullShare (P (pal 0 c) ch))
    ∗ (flying c 1 ch ∗ flying c 2 ch ∗ flying c 3 ch) ∗ owns (c : Thread nD τ) (slot3 aM ch) fullShare.left.left (A c ch))

theorem trip2 (x : (cc0_stg0_0 : Ref sig .tc).ty.Contents (Elt F)) (v3 v4 v5 : BitVec 32) (v16 v20 : BitVec 1)
    (hA : ∀ ch, A c ch = merged v20 v16 (P c ch) (P (pal 0 c) ch)) (ch : Fin 2) (k : Fin k0_t2_loop.trips) (hk : k.val = ch.val) (Q : Unit → sProp 𝕄) :
    iprop(thread c P A K x (O₂ c ch.val) ∗ pre₂ c P ch)
      ⊢ iprop(((thread c P A K x (O₂ c (ch.val + 1)) ∗ post₂ c P A ch) -∗ Q ())
        -∗ wp frame (wpE (defs₀ (F := F)) 𝒱₀ (c : Thread nD τ) none) Set.univ
          (k0_t2_body xM (Memref.isWhole_whole _) oM (Memref.isWhole_whole _) sM (Memref.isWhole_whole _) rM (Memref.isWhole_whole _)
            aM (Memref.isWhole_whole _) lM (Memref.isWhole_whole _) cc0_scratch4 cc0_scratch5 c v3 v4 v5 v16 v20 rowNo k ()) Q) := by
  rw [body2_eq]
  simp only [Prog.lift, Prog.bind_op, Prog.bind_ret, Prog.pure_eq_ret]
  unfold thread pre₂ post₂ post₁
  iintro ⟨⟨#Hf, HO, Hx⟩, ⟨⟨Hfl, Hs⟩, ⟨Hc1, Hc2, Hc3⟩, Ha, Hd1, Hd2, Hd3⟩⟩ HQ
  iapply (wp_wait_recv c 0 ch (recvS_of 0 ch ((k0_off5_eq k).trans (by rw [hk]; rfl))) (slot3_of rM ch ((k0_off6_eq k).trans (by rw [hk]))) (n := 2) (lv_recv c 0 ch).le (above_O₂ (by decide) c ch.val)) $$ [Hfl HO]
  · isplitr; · iexact Hf
    isplitl [Hfl] <;> iassumption
  iintro ⟨Hld, Hr, HO⟩
  unfold recvPay dst sent
  iapply (wp_load_slot3 c sM ch ((k0_off7_eq k).trans (by rw [hk]))) $$ Hs
  iintro %v %hv Hs
  iapply (wp_load_slot3 c rM ch ((k0_off7_eq k).trans (by rw [hk]))) $$ Hr
  iintro %w %hw Hr
  rw [hv, hw, ← hA ch]
  iapply (wp_store_slot3 c aM ch (w := A c ch) ((k0_off7_eq k).trans (by rw [hk]))) $$ Ha
  iintro Ha
  ihave Ha' := (owns_split c (slot3 aM ch) fullShare (A c ch)) $$ Ha
  icases Ha' with ⟨Hal, Har⟩
  ihave Ha' := (owns_split c (slot3 aM ch) fullShare.left (A c ch)) $$ Hal
  icases Ha' with ⟨Ha0, Ha1⟩
  ihave Ha' := (owns_split c (slot3 aM ch) fullShare.right (A c ch)) $$ Har
  icases Ha' with ⟨Ha2, Ha3⟩
  rw [O₂_step]
  unfold copy plusB
  icases Hc1 with ⟨Ht1, Ht1', HatS1, HatR1, HcR1⟩
  icases Hc2 with ⟨Ht2, Ht2', HatS2, HatR2, HcR2⟩
  icases Hc3 with ⟨Ht3, Ht3', HatS3, HatR3, HcR3⟩
  iapply (wp_send_copy c 1 ch (dev5_eq c) (slot3_of aM ch ((k0_off6_eq k).trans (by rw [hk]))) (slot4_of lM ch 0 ((k0_off9_eq k).trans (by rw [hk]; rfl)))
    (sendS_of 1 ch ((k0_off8_eq k).trans (by rw [hk]; rfl))) (recvS_of 1 ch ((k0_off8_eq k).trans (by rw [hk]; rfl)))) $$ [Ha1 Hd1 HO Ht1 Ht1']
  · isplitr; · iexact Hf
    isplitl [Ha1]; · unfold sendPay src lent sent; iexact Ha1
    isplitl [Hd1]; · iexact Hd1
    isplitl [HO]; · iexact HO
    isplitl [Ht1] <;> iassumption
  iintro ⟨HcS1, HO⟩
  iapply (wp_send_copy c 2 ch (dev6_eq c) (slot3_of aM ch ((k0_off6_eq k).trans (by rw [hk]))) (slot4_of lM ch 1 ((k0_off11_eq k).trans (by rw [hk]; rfl)))
    (sendS_of 2 ch ((k0_off10_eq k).trans (by rw [hk]; rfl))) (recvS_of 2 ch ((k0_off10_eq k).trans (by rw [hk]; rfl)))) $$ [Ha2 Hd2 HO Ht2 Ht2']
  · isplitr; · iexact Hf
    isplitl [Ha2]; · unfold sendPay src lent sent; iexact Ha2
    isplitl [Hd2]; · iexact Hd2
    isplitl [HO]; · iexact HO
    isplitl [Ht2] <;> iassumption
  iintro ⟨HcS2, HO⟩
  iapply (wp_send_copy c 3 ch (dev7_eq c) (slot3_of aM ch ((k0_off6_eq k).trans (by rw [hk]))) (slot4_of lM ch 2 ((k0_off13_eq k).trans (by rw [hk]; rfl)))
    (sendS_of 3 ch ((k0_off12_eq k).trans (by rw [hk]; rfl))) (recvS_of 3 ch ((k0_off12_eq k).trans (by rw [hk]; rfl)))) $$ [Ha3 Hd3 HO Ht3 Ht3']
  · isplitr; · iexact Hf
    isplitl [Ha3]; · unfold sendPay src lent sent; iexact Ha3
    isplitl [Hd3]; · iexact Hd3
    isplitl [HO]; · iexact HO
    isplitl [Ht3] <;> iassumption
  iintro ⟨HcS3, HO⟩
  rw [wp_ret]; imodintro
  iapply HQ
  isplitl [HO Hx]
  · isplitr; · iexact Hf
    isplitl [HO] <;> iassumption
  isplitl [Hld Hs Hr]
  · isplitl [Hld]; · iexact Hld
    isplitl [Hs] <;> iassumption
  isplitr [Ha0]
  · unfold flying
    isplitl [HcS1 HatS1 HatR1 HcR1]
    · isplitl [HcS1]; · iexact HcS1
      isplitl [HatS1]; · iexact HatS1
      isplitl [HatR1] <;> iassumption
    isplitl [HcS2 HatS2 HatR2 HcR2]
    · isplitl [HcS2]; · iexact HcS2
      isplitl [HatS2]; · iexact HatS2
      isplitl [HatR2] <;> iassumption
    · isplitl [HcS3]; · iexact HcS3
      isplitl [HatS3]; · iexact HatS3
      isplitl [HatR3] <;> iassumption
  · iexact Ha0

def pre₃ (A : Dev nD → Fin 2 → FVec F S2048x256 .bf16) (ch : Fin 2) : sProp 𝕄 :=
  iprop((flying c 1 ch ∗ flying c 2 ch ∗ flying c 3 ch) ∗ owns (c : Thread nD τ) (slot3 aM ch) fullShare.left.left (A c ch) ∗ anyAt c (slot2 oM ch))
def post₃ (A : Dev nD → Fin 2 → FVec F S2048x256 .bf16) (Z : Fin 2 → FVec F S2048x256 .bf16) (ch : Fin 2) : sProp 𝕄 :=
  iprop((landed c 1 ch ∗ landed c 2 ch ∗ landed c 3 ch) ∗ owns (c : Thread nD τ) (slot3 aM ch) fullShare.left.left (A c ch)
    ∗ owns (c : Thread nD τ) (slot2 oM ch) fullShare (Z ch)
    ∗ anyAt c (slot4 lM ch 0) ∗ anyAt c (slot4 lM ch 1) ∗ anyAt c (slot4 lM ch 2))

theorem trip3 (x : (cc0_stg0_0 : Ref sig .tc).ty.Contents (Elt F)) (v3 v4 v5 : BitVec 32) (v22 v24 : BitVec 1) (Z : Fin 2 → FVec F S2048x256 .bf16)
    (hZ : ∀ ch, Z ch = finished v22 v24 (A c ch) (A (pal 1 c) ch) (A (pal 2 c) ch) (A (pal 3 c) ch))
    (ch : Fin 2) (k : Fin k0_t3_loop.trips) (hk : k.val = ch.val) (Q : Unit → sProp 𝕄) :
    iprop(thread c P A K x 0 ∗ pre₃ c A ch)
      ⊢ iprop(((thread c P A K x 0 ∗ post₃ c A Z ch) -∗ Q ())
        -∗ wp frame (wpE (defs₀ (F := F)) 𝒱₀ (c : Thread nD τ) none) Set.univ
          (k0_t3_body xM (Memref.isWhole_whole _) oM (Memref.isWhole_whole _) sM (Memref.isWhole_whole _) rM (Memref.isWhole_whole _)
            aM (Memref.isWhole_whole _) lM (Memref.isWhole_whole _) cc0_scratch4 cc0_scratch5 v3 v4 v5 v22 v24 rowNo k ()) Q) := by
  rw [body3_eq]
  simp only [Prog.lift, Prog.bind_op, Prog.bind_ret, Prog.pure_eq_ret]
  unfold thread pre₃ post₃
  iintro ⟨⟨#Hf, HO, Hx⟩, ⟨⟨Hf1, Hf2, Hf3⟩, Ha, Ho⟩⟩ HQ
  iapply (wp_wait_recv c 1 ch (recvS_of 1 ch ((k0_off14_eq k).trans (by rw [hk]; rfl))) (slot4_of lM ch 0 ((k0_off15_eq k).trans (by rw [hk]; rfl))) (n := 3) (lv_recv c 1 ch).le (Above.zero 3)) $$ [Hf1 HO]
  · isplitr; · iexact Hf
    isplitl [Hf1] <;> iassumption
  iintro ⟨Hl1, Hr1, HO⟩
  iapply (wp_wait_recv c 2 ch (recvS_of 2 ch ((k0_off17_eq k).trans (by rw [hk]; rfl))) (slot4_of lM ch 1 ((k0_off18_eq k).trans (by rw [hk]; rfl))) (n := 3) (lv_recv c 2 ch).le (Above.zero 3)) $$ [Hf2 HO]
  · isplitr; · iexact Hf
    isplitl [Hf2] <;> iassumption
  iintro ⟨Hl2, Hr2, HO⟩
  iapply (wp_wait_recv c 3 ch (recvS_of 3 ch ((k0_off19_eq k).trans (by rw [hk]; rfl))) (slot4_of lM ch 2 ((k0_off20_eq k).trans (by rw [hk]; rfl))) (n := 3) (lv_recv c 3 ch).le (Above.zero 3)) $$ [Hf3 HO]
  · isplitr; · iexact Hf
    isplitl [Hf3] <;> iassumption
  iintro ⟨Hl3, Hr3, HO⟩
  unfold recvPay dst sent
  iapply (wp_load_slot4 c lM ch 0 ((k0_off21_eq k).trans (by rw [hk]; rfl))) $$ Hr1
  iintro %p1 %hp1 Hr1
  iapply (wp_load_slot4 c lM ch 1 ((k0_off22_eq k).trans (by rw [hk]; rfl))) $$ Hr2
  iintro %p2 %hp2 Hr2
  iapply (wp_load_slot4 c lM ch 2 ((k0_off23_eq k).trans (by rw [hk]; rfl))) $$ Hr3
  iintro %p3 %hp3 Hr3
  iapply (wp_load_slot3 c aM ch ((k0_off24_eq k).trans (by rw [hk]))) $$ Ha
  iintro %w %hw Ha
  rw [hp1, hp2, hp3, hw, ← hZ ch]
  iapply (wp_store_slot2 c oM ch (w := Z ch) ((k0_off25_eq k).trans (by rw [hk]))) $$ Ho
  iintro Ho
  rw [wp_ret]; imodintro
  iapply HQ
  isplitl [HO Hx]
  · isplitr; · iexact Hf
    isplitl [HO] <;> iassumption
  isplitl [Hl1 Hl2 Hl3]
  · isplitl [Hl1]; · iexact Hl1
    isplitl [Hl2] <;> iassumption
  isplitl [Ha]; · iexact Ha
  isplitl [Ho]; · iexact Ho
  isplitl [Hr1]; · iexists _; iexact Hr1
  isplitl [Hr2]; · iexists _; iexact Hr2
  iexists _; iexact Hr3

def pre₄ (P A : Dev nD → Fin 2 → FVec F S2048x256 .bf16) (ch : Fin 2) : sProp 𝕄 :=
  iprop((landed c 0 ch ∗ landed c 1 ch ∗ landed c 2 ch ∗ landed c 3 ch)
    ∗ owns (c : Thread nD τ) (slot3 sM ch) fullShare.left (P c ch) ∗ owns (c : Thread nD τ) (slot3 aM ch) fullShare.left.left (A c ch))
def post₄ (ch : Fin 2) : sProp 𝕄 :=
  iprop((closed c 0 ch ∗ closed c 1 ch ∗ closed c 2 ch ∗ closed c 3 ch) ∗ anyAt c (slot3 sM ch) ∗ anyAt c (slot3 aM ch))

theorem trip4 (x : (cc0_stg0_0 : Ref sig .tc).ty.Contents (Elt F)) (ch : Fin 2) (k : Fin k0_t4_loop.trips) (hk : k.val = ch.val) (Q : Unit → sProp 𝕄) :
    iprop(thread c P A K x 0 ∗ pre₄ c P A ch)
      ⊢ iprop(((thread c P A K x 0 ∗ post₄ c ch) -∗ Q ())
        -∗ wp frame (wpE (defs₀ (F := F)) 𝒱₀ (c : Thread nD τ) none) Set.univ
          (k0_t4_body xM (Memref.isWhole_whole _) oM (Memref.isWhole_whole _) sM (Memref.isWhole_whole _) rM (Memref.isWhole_whole _)
            aM (Memref.isWhole_whole _) lM (Memref.isWhole_whole _) cc0_scratch4 cc0_scratch5 k ()) Q) := by
  rw [body4_eq]
  simp only [Prog.lift, Prog.bind_op, Prog.bind_ret, Prog.pure_eq_ret]
  unfold thread pre₄ post₄
  iintro ⟨⟨#Hf, HO, Hx⟩, ⟨⟨H0, H1, H2, H3⟩, Hs, Ha⟩⟩ HQ
  iapply (wp_wait_send c 0 ch (sendS_of 0 ch ((k0_off26_eq k).trans (by rw [hk]; rfl))) (slot3_of sM ch ((k0_off27_eq k).trans (by rw [hk])))) $$ [H0 HO]
  · isplitr; · iexact Hf
    isplitl [H0] <;> iassumption
  iintro ⟨H0, Hs0, HO⟩
  iapply (wp_wait_send c 1 ch (sendS_of 1 ch ((k0_off28_eq k).trans (by rw [hk]; rfl))) (slot3_of aM ch ((k0_off27_eq k).trans (by rw [hk])))) $$ [H1 HO]
  · isplitr; · iexact Hf
    isplitl [H1] <;> iassumption
  iintro ⟨H1, Ha1, HO⟩
  iapply (wp_wait_send c 2 ch (sendS_of 2 ch ((k0_off30_eq k).trans (by rw [hk]; rfl))) (slot3_of aM ch ((k0_off27_eq k).trans (by rw [hk])))) $$ [H2 HO]
  · isplitr; · iexact Hf
    isplitl [H2] <;> iassumption
  iintro ⟨H2, Ha2, HO⟩
  iapply (wp_wait_send c 3 ch (sendS_of 3 ch ((k0_off32_eq k).trans (by rw [hk]; rfl))) (slot3_of aM ch ((k0_off27_eq k).trans (by rw [hk])))) $$ [H3 HO]
  · isplitr; · iexact Hf
    isplitl [H3] <;> iassumption
  iintro ⟨H3, Ha3, HO⟩
  unfold sendPay src lent sent
  rw [wp_ret]; imodintro
  iapply HQ
  isplitl [HO Hx]
  · isplitr; · iexact Hf
    isplitl [HO] <;> iassumption
  isplitl [H0 H1 H2 H3]
  · isplitl [H0]; · iexact H0
    isplitl [H1]; · iexact H1
    isplitl [H2] <;> iassumption
  isplitl [Hs Hs0]
  · iexists _
    iapply (owns_merge c (slot3 sM ch) fullShare (P c ch))
    isplitl [Hs] <;> iassumption
  · iexists _
    iapply (owns_merge c (slot3 aM ch) fullShare (A c ch))
    isplitl [Ha Ha1]
    · iapply (owns_merge c (slot3 aM ch) fullShare.left (A c ch))
      isplitl [Ha] <;> iassumption
    · iapply (owns_merge c (slot3 aM ch) fullShare.right (A c ch))
      isplitl [Ha2] <;> iassumption

end Trips

end Cert.KernelIdeal.Sort

end
-- ==== Proof.Buffers.lean ====
/-
  Whole buffers and their slots: a buffer at any contents is its slots at any contents, and back; the result's two halves
  at their values are the result at the value they make.
-/
module

public import proofs.«01_k».proof.Proof.Slots

@[expose] public section

noncomputable section

namespace Cert.KernelIdeal.Sort

open Cert.KernelIdeal Cert.KernelIdeal.Gen
open Idealize.ShloMosaic
open Idealize.ShloMosaic.TcCoe
open Idealize.ShloMosaic.Tactic
open Idealize.SL Idealize.SL.RA Idealize.SL.BI Idealize.SL.Sem
open scoped Idealize.SL.BI
open Idealize.SL.BI.BIBase Idealize.SL.BI.Laws
open Idealize.SL.ProofMode hiding frame
open Idealize.ShloMosaic.Rounds

variable {F : FTy → Type} [FloatOps F]

local notation "𝕄" => MT nD τ sig Unit (Elt F) ℕ UU ℕ

/-- A buffer whole, at some contents. -/
abbrev anyBuf (c : Dev nD) (b : Ref sig .tc) : sProp 𝕄 :=
  iprop(∃ f : Buf (Elt F) ((c : Thread nD τ).loc b), ((c : Thread nD τ).loc b) ↦{fullShare} f)

theorem any_join {T : Type} [Fintype T] [DecidableEq T] [Inhabited T] (c : Dev nD) (b : Ref sig .tc) (K : T → Memref sig .tc .vmem S2048x256 .bf16)
    (P : T → Finset (Idx ((c : Thread nD τ).loc b)))
    (hd : ∀ t t', t ≠ t' → Disjoint (P t) (P t')) (hc : Finset.univ.biUnion P = Finset.univ)
    (hK : ∀ t, (anyAt c (K t) : sProp 𝕄) ⊢ iprop(∃ f : Buf (Elt F) ((c : Thread nD τ).loc b), ((c : Thread nD τ).loc b) ↦[P t]{fullShare} f)) :
    (bigSep Finset.univ fun t => anyAt c (K t) : sProp 𝕄) ⊢ anyBuf c b := by
  have h1 : (bigSep Finset.univ fun t => anyAt c (K t) : sProp 𝕄)
      ⊢ bigSep Finset.univ fun t => iprop(∃ f : Buf (Elt F) ((c : Thread nD τ).loc b), ((c : Thread nD τ).loc b) ↦[P t]{fullShare} f) :=
    BI.bigSep_mono fun t _ => hK t
  iintro H
  ihave H := h1 $$ H
  ihave H := (BI.bigSep_exists_pi Finset.univ (fun t (f : Buf (Elt F) ((c : Thread nD τ).loc b)) => (((c : Thread nD τ).loc b) ↦[P t]{fullShare} f : sProp 𝕄))) $$ H
  icases H with ⟨%fs, H⟩
  ihave H := (pointsTo_biUnion_join Finset.univ P fs (fs default) fun t _ t' _ h => hd t t' h) $$ H
  icases H with ⟨%g, -, H⟩
  rw [hc]
  iexists g; iexact H

/-! ## Slots are apart, and together the buffer -/

theorem apart2 (ch ch' : Fin 2) (h : ch ≠ ch') : Disjoint (rect2 ch).set (rect2 ch').set := by
  refine Finset.disjoint_left.mpr fun i hi hi' => h (Fin.ext ?_)
  have h0 := Rect.mem_set_unit.mp hi 1
  have h1 := Rect.mem_set_unit.mp hi' 1
  change 256 * ch.val ≤ (i 1).val ∧ (i 1).val < 256 * ch.val + 256 at h0
  change 256 * ch'.val ≤ (i 1).val ∧ (i 1).val < 256 * ch'.val + 256 at h1
  omega

theorem cover2 (i : S2048x512.Idx) : ∃ ch, i ∈ (rect2 ch).set := by
  have b0 := (i 0).isLt; have b1 := (i 1).isLt
  change (i 0).val < 2048 at b0; change (i 1).val < 512 at b1
  refine ⟨⟨(i 1).val / 256, by omega⟩, Rect.mem_set_unit.mpr fun a => ?_⟩
  fin_cases a
  · show 0 ≤ (i 0).val ∧ (i 0).val < 0 + 2048; omega
  · show 256 * ((i 1).val / 256) ≤ (i 1).val ∧ (i 1).val < 256 * ((i 1).val / 256) + 256; omega

theorem apart3 (ch ch' : Fin 2) (h : ch ≠ ch') : Disjoint (rect3 ch).set (rect3 ch').set := by
  refine Finset.disjoint_left.mpr fun i hi hi' => h (Fin.ext ?_)
  have h0 := Rect.mem_set_unit.mp hi 0
  have h1 := Rect.mem_set_unit.mp hi' 0
  change ch.val ≤ (i 0).val ∧ (i 0).val < ch.val + 1 at h0
  change ch'.val ≤ (i 0).val ∧ (i 0).val < ch'.val + 1 at h1
  omega

theorem cover3 (i : S2x2048x256.Idx) : ∃ ch, i ∈ (rect3 ch).set := by
  have b0 := (i 0).isLt; have b1 := (i 1).isLt; have b2 := (i 2).isLt
  change (i 0).val < 2 at b0; change (i 1).val < 2048 at b1; change (i 2).val < 256 at b2
  refine ⟨⟨(i 0).val, b0⟩, Rect.mem_set_unit.mpr fun a => ?_⟩
  fin_cases a
  · show (i 0).val ≤ (i 0).val ∧ (i 0).val < (i 0).val + 1; omega
  · show 0 ≤ (i 1).val ∧ (i 1).val < 0 + 2048; omega
  · show 0 ≤ (i 2).val ∧ (i 2).val < 0 + 256; omega

theorem apart4 (t t' : Fin 2 × Fin 3) (h : t ≠ t') : Disjoint (rect4 t.1 t.2).set (rect4 t'.1 t'.2).set := by
  refine Finset.disjoint_left.mpr fun i hi hi' => h (Prod.ext (Fin.ext ?_) (Fin.ext ?_))
  · have h0 := Rect.mem_set_unit.mp hi 0
    have h1 := Rect.mem_set_unit.mp hi' 0
    change t.1.val ≤ (i 0).val ∧ (i 0).val < t.1.val + 1 at h0
    change t'.1.val ≤ (i 0).val ∧ (i 0).val < t'.1.val + 1 at h1
    omega
  · have h0 := Rect.mem_set_unit.mp hi 1
    have h1 := Rect.mem_set_unit.mp hi' 1
    change t.2.val ≤ (i 1).val ∧ (i 1).val < t.2.val + 1 at h0
    change t'.2.val ≤ (i 1).val ∧ (i 1).val < t'.2.val + 1 at h1
    omega

theorem cover4 (i : S2x3x2048x256.Idx) : ∃ t : Fin 2 × Fin 3, i ∈ (rect4 t.1 t.2).set := by
  have b0 := (i 0).isLt; have b1 := (i 1).isLt; have b2 := (i 2).isLt; have b3 := (i 3).isLt
  change (i 0).val < 2 at b0; change (i 1).val < 3 at b1; change (i 2).val < 2048 at b2; change (i 3).val < 256 at b3
  refine ⟨(⟨(i 0).val, b0⟩, ⟨(i 1).val, b1⟩), Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 2048; omega
  · show 0 ≤ (i 3).val ∧ (i 3).val < 0 + 256; omega

theorem union_eq {T I : Type} [Fintype T] [DecidableEq T] [Fintype I] [DecidableEq I] (P : T → Finset I) (h : ∀ i, ∃ t, i ∈ P t) :
    Finset.univ.biUnion P = Finset.univ :=
  Finset.eq_univ_iff_forall.mpr fun i => let ⟨t, ht⟩ := h i; Finset.mem_biUnion.mpr ⟨t, Finset.mem_univ _, ht⟩

/-- A whole buffer's slot is its rectangle. -/
theorem set_s (ch : Fin 2) : (slot3 sM ch).view.set = (rect3 ch).set := by rw [View.set_reshape]; exact View.set_slice_whole _ _
theorem set_r (ch : Fin 2) : (slot3 rM ch).view.set = (rect3 ch).set := by rw [View.set_reshape]; exact View.set_slice_whole _ _
theorem set_a (ch : Fin 2) : (slot3 aM ch).view.set = (rect3 ch).set := by rw [View.set_reshape]; exact View.set_slice_whole _ _
theorem set_l (ch : Fin 2) (j : Fin 3) : (slot4 lM ch j).view.set = (rect4 ch j).set := by rw [View.set_reshape]; exact View.set_slice_whole _ _
theorem set_o (ch : Fin 2) : (slot2 oM ch).view.set = (rect2 ch).set := View.set_slice_whole _ _

theorem pair_eq (Φ : Fin 2 → sProp 𝕄) : bigSep Finset.univ Φ = iprop(Φ 0 ∗ Φ 1) :=
  bigSep_eq_bigSepL_of_eq [(0 : Fin 2), 1] (by decide) (by decide) Φ
theorem six_eq (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_eq_bigSepL_of_eq [((0 : Fin 2), (0 : Fin 3)), (0, 1), (0, 2), (1, 0), (1, 1), (1, 2)] (by decide) (by decide) Φ

section Buffers

variable (c : Dev nD)

theorem split_s : (anyBuf c cc0_scratch0 : sProp 𝕄) ⊢ iprop(anyAt c (slot3 sM 0) ∗ anyAt c (slot3 sM 1)) :=
  (any_split c cc0_scratch0 (slot3 sM) (fun ch => (rect3 ch).set) apart3 (union_eq _ cover3) (fun ch f => by
    rw [← set_s ch]; unfold anyAt owns
    iintro H; iexists _; iexists f; isplitr; · (ipureintro; rfl)
    iexact H)).trans (Entails.of_eq (pair_eq _))
theorem join_s : iprop(anyAt c (slot3 sM 0) ∗ anyAt c (slot3 sM 1)) ⊢ (anyBuf c cc0_scratch0 : sProp 𝕄) :=
  (Entails.of_eq (pair_eq fun ch => anyAt c (slot3 sM ch)).symm).trans
    (any_join c cc0_scratch0 (slot3 sM) (fun ch => (rect3 ch).set) apart3 (union_eq _ cover3) (fun ch => by
    rw [← set_s ch]; unfold anyAt owns
    iintro ⟨%u, %f, -, H⟩; iexists f; iexact H))
theorem split_r : (anyBuf c cc0_scratch1 : sProp 𝕄) ⊢ iprop(anyAt c (slot3 rM 0) ∗ anyAt c (slot3 rM 1)) :=
  (any_split c cc0_scratch1 (slot3 rM) (fun ch => (rect3 ch).set) apart3 (union_eq _ cover3) (fun ch f => by
    rw [← set_r ch]; unfold anyAt owns
    iintro H; iexists _; iexists f; isplitr; · (ipureintro; rfl)
    iexact H)).trans (Entails.of_eq (pair_eq _))
theorem join_r : iprop(anyAt c (slot3 rM 0) ∗ anyAt c (slot3 rM 1)) ⊢ (anyBuf c cc0_scratch1 : sProp 𝕄) :=
  (Entails.of_eq (pair_eq fun ch => anyAt c (slot3 rM ch)).symm).trans
    (any_join c cc0_scratch1 (slot3 rM) (fun ch => (rect3 ch).set) apart3 (union_eq _ cover3) (fun ch => by
    rw [← set_r ch]; unfold anyAt owns
    iintro ⟨%u, %f, -, H⟩; iexists f; iexact H))
theorem split_a : (anyBuf c cc0_scratch2 : sProp 𝕄) ⊢ iprop(anyAt c (slot3 aM 0) ∗ anyAt c (slot3 aM 1)) :=
  (any_split c cc0_scratch2 (slot3 aM) (fun ch => (rect3 ch).set) apart3 (union_eq _ cover3) (fun ch f => by
    rw [← set_a ch]; unfold anyAt owns
    iintro H; iexists _; iexists f; isplitr; · (ipureintro; rfl)
    iexact H)).trans (Entails.of_eq (pair_eq _))
theorem join_a : iprop(anyAt c (slot3 aM 0) ∗ anyAt c (slot3 aM 1)) ⊢ (anyBuf c cc0_scratch2 : sProp 𝕄) :=
  (Entails.of_eq (pair_eq fun ch => anyAt c (slot3 aM ch)).symm).trans
    (any_join c cc0_scratch2 (slot3 aM) (fun ch => (rect3 ch).set) apart3 (union_eq _ cover3) (fun ch => by
    rw [← set_a ch]; unfold anyAt owns
    iintro ⟨%u, %f, -, H⟩; iexists f; iexact H))
theorem split_l : (anyBuf c cc0_scratch3 : sProp 𝕄) ⊢ iprop(anyAt c (slot4 lM 0 0) ∗ anyAt c (slot4 lM 0 1) ∗ anyAt c (slot4 lM 0 2)
    ∗ anyAt c (slot4 lM 1 0) ∗ anyAt c (slot4 lM 1 1) ∗ anyAt c (slot4 lM 1 2)) :=
  (any_split c cc0_scratch3 (fun t : Fin 2 × Fin 3 => slot4 lM t.1 t.2) (fun t => (rect4 t.1 t.2).set) apart4 (union_eq _ cover4) (fun t f => by
    rw [← set_l t.1 t.2]; unfold anyAt owns
    iintro H; iexists _; iexists f; isplitr; · (ipureintro; rfl)
    iexact H)).trans (Entails.of_eq (six_eq _))
theorem join_l : iprop(anyAt c (slot4 lM 0 0) ∗ anyAt c (slot4 lM 0 1) ∗ anyAt c (slot4 lM 0 2)
    ∗ anyAt c (slot4 lM 1 0) ∗ anyAt c (slot4 lM 1 1) ∗ anyAt c (slot4 lM 1 2)) ⊢ (anyBuf c cc0_scratch3 : sProp 𝕄) :=
  (Entails.of_eq (six_eq fun t => anyAt c (slot4 lM t.1 t.2)).symm).trans
    (any_join c cc0_scratch3 (fun t : Fin 2 × Fin 3 => slot4 lM t.1 t.2) (fun t => (rect4 t.1 t.2).set) apart4 (union_eq _ cover4) (fun t => by
    rw [← set_l t.1 t.2]; unfold anyAt owns
    iintro ⟨%u, %f, -, H⟩; iexists f; iexact H))
theorem split_o : (anyBuf c cc0_stg1_0 : sProp 𝕄) ⊢ iprop(anyAt c (slot2 oM 0) ∗ anyAt c (slot2 oM 1)) :=
  (any_split c cc0_stg1_0 (slot2 oM) (fun ch => (rect2 ch).set) apart2 (union_eq _ cover2) (fun ch f => by
    rw [← set_o ch]; unfold anyAt owns
    iintro H; iexists _; iexists f; isplitr; · (ipureintro; rfl)
    iexact H)).trans (Entails.of_eq (pair_eq _))

/-- The result made of its two halves. -/
def glued (Z : Fin 2 → FVec F S2048x256 .bf16) : (cc0_stg1_0 : Ref sig .tc).ty.Contents (Elt F) := fun i =>
  Z ⟨(i 1).val / 256, by have h := (i 1).isLt; change (i 1).val < 512 at h; omega⟩
    (Fin.cons (i 0) (Fin.cons ⟨(i 1).val % 256, Nat.mod_lt _ (by decide)⟩ finZeroElim))

theorem read_glued (Z : Fin 2 → FVec F S2048x256 .bf16) (ch : Fin 2) : (slot2 oM ch).view.read (Elt F) (glued Z) = Z ch := by
  funext x
  show glued Z ((rect2 ch).emb x) = Z ch x
  have b1 := (x 1).isLt; change (x 1).val < 256 at b1
  have e0 : ((rect2 ch).emb x 0).val = 0 + 1 * (x 0).val := rfl
  have e1 : ((rect2 ch).emb x 1).val = 256 * ch.val + 1 * (x 1).val := rfl
  unfold glued
  congr 1
  · congr 1; show ((rect2 ch).emb x 1).val / 256 = ch.val; omega
  · funext a; fin_cases a
    · apply Fin.ext; show ((rect2 ch).emb x 0).val = (x 0).val; omega
    · apply Fin.ext; show ((rect2 ch).emb x 1).val % 256 = (x 1).val; omega

theorem join_o (Z : Fin 2 → FVec F S2048x256 .bf16) :
    iprop(owns (c : Thread nD τ) (slot2 oM 0) fullShare (Z 0) ∗ owns (c : Thread nD τ) (slot2 oM 1) fullShare (Z 1))
      ⊢ ((((c : Thread nD τ).loc cc0_stg1_0) ↦{fullShare} (glued Z : Buf (Elt F) ((c : Thread nD τ).loc cc0_stg1_0))) : sProp 𝕄) := by
  have h1 : ∀ ch : Fin 2, (owns (c : Thread nD τ) (slot2 oM ch) fullShare (Z ch) : sProp 𝕄)
      ⊢ (((c : Thread nD τ).loc cc0_stg1_0) ↦[(rect2 ch).set]{fullShare} (glued Z : Buf (Elt F) ((c : Thread nD τ).loc cc0_stg1_0))) := fun ch => by
    rw [← set_o ch]; unfold owns
    iintro ⟨%f, %hf, H⟩
    have e : ∀ i ∈ (slot2 oM ch).view.set, f i = glued Z i := fun i hi => by
      obtain ⟨x, -, rfl⟩ := Finset.mem_map.mp hi
      exact View.eq_of_read_eq (by rw [hf, read_glued])
    ihave H' := (Entails.of_eq (pointsTo_congr e)) $$ H
    iexact H'
  generalize (glued Z : Buf (Elt F) ((c : Thread nD τ).loc cc0_stg1_0)) = g at h1 ⊢
  refine (BI.sep_mono (h1 0) (h1 1)).trans ?_
  refine (Entails.of_eq (pair_eq fun ch => (((c : Thread nD τ).loc cc0_stg1_0) ↦[(rect2 ch).set]{fullShare} g : sProp 𝕄)).symm).trans ?_
  have hu := pointsTo_biUnion (Ix := Unit) (Name := ℕ) (U := UU) (Lvl := ℕ) (ℓ := (c : Thread nD τ).loc cc0_stg1_0) (q := fullShare) (f := g)
    Finset.univ (fun ch : Fin 2 => (rect2 ch).set) fun t _ t' _ h => apart2 t t' h
  rw [union_eq _ cover2] at hu
  exact Entails.of_eq hu.symm

end Buffers

end Cert.KernelIdeal.Sort

end
-- ==== Proof.Body.lean ====
/-
  The kernel on one device: the handshake on the barrier semaphore, then the four loops, from the launch's resources to
  the sorted block in the result's staging buffer.
-/
module

public import proofs.«01_k».proof.Proof.Trips
public import proofs.«01_k».proof.Proof.Buffers

@[expose] public section

noncomputable section

namespace Cert.KernelIdeal.Sort

open Cert.KernelIdeal Cert.KernelIdeal.Gen
open Idealize.ShloMosaic
open Idealize.ShloMosaic.TcCoe
open Idealize.ShloMosaic.Tactic
open Idealize.SL Idealize.SL.RA Idealize.SL.BI Idealize.SL.Sem
open scoped Idealize.SL.BI
open Idealize.SL.BI.BIBase Idealize.SL.BI.Laws
open Idealize.SL.ProofMode hiding frame
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

/-- A device's number, as the kernel computes it, -/
abbrev number (c : Dev nD) : BitVec 32 := Scalar.remsi (Scalar.divsi (Dev.word c) 1#32) 4#32
/-- whether it is odd, -/
abbrev isOdd (c : Dev nD) : BitVec 1 := Scalar.cmpi .eq (Scalar.andi (number c) 1#32) 1#32
/-- whether it is in the lower pair, -/
abbrev lowPair (c : Dev nD) : BitVec 1 := Scalar.cmpi .eq (Scalar.andi (number c) 2#32) 0#32
/-- whether it is the lower of its pair, -/
abbrev lowOne (c : Dev nD) : BitVec 1 := Scalar.cmpi .eq (Scalar.andi (number c) 1#32) 0#32
/-- and whether in its pair's merge it keeps the lower half: the lower of an ascending pair, the upper of a descending. -/
abbrev keepsLow (c : Dev nD) : BitVec 1 := Scalar.xori (Scalar.xori (lowOne c) (lowPair c)) 1#1

section Values

variable (x : Dev nD → (cc0_stg0_0 : Ref sig .tc).ty.Contents (Elt F))

/-- A device's chunk sorted within the device, -/
def alone (c : Dev nD) (ch : Fin 2) : FVec F S2048x256 .bf16 := presorted (isOdd c) (chunk (x c) ch)
/-- within its pair, -/
def paired (c : Dev nD) (ch : Fin 2) : FVec F S2048x256 .bf16 := merged (keepsLow c) (lowPair c) (alone x c ch) (alone x (pal 0 c) ch)
/-- and within the whole. -/
def final (c : Dev nD) (ch : Fin 2) : FVec F S2048x256 .bf16 :=
  finished (lowPair c) (lowOne c) (paired x c ch) (paired x (pal 1 c) ch) (paired x (pal 2 c) ch) (paired x (pal 3 c) ch)

end Values

/-! ## The resources at the ends -/

/-- What a device holds of all eight copies. -/
def copies (c : Dev nD) (R : Dev nD → Fin 4 → Fin 2 → sProp 𝕄) : sProp 𝕄 := bigSep Finset.univ fun k : KI => R c k.1 k.2

theorem copies_eq (c : Dev nD) (R : Dev nD → Fin 4 → Fin 2 → sProp 𝕄) : copies c R
    = iprop(R c 0 0 ∗ R c 0 1 ∗ R c 1 0 ∗ R c 1 1 ∗ R c 2 0 ∗ R c 2 1 ∗ R c 3 0 ∗ R c 3 1) :=
  bigSep_eq_bigSepL_of_eq [((0 : Fin 4), (0 : Fin 2)), (0, 1), (1, 0), (1, 1), (2, 0), (2, 1), (3, 0), (3, 1)] (by decide) (by decide)
    fun k : KI => R c k.1 k.2

/-- Its place at its barrier cell, with the three units it will be paid, and the duties it has at its peers'. -/
def handshake (c : Dev nD) : sProp 𝕄 :=
  iprop(atPos ER (barCell c) 0 ∅ 0 ∗ cred (tallyAt (barCell c) () 3)
    ∗ dutyTok ER (barCell (peer 1 c)) 0 1 ∗ dutyTok ER (barCell (peer 2 c)) 0 2 ∗ dutyTok ER (barCell (peer 3 c)) 0 3)

/-- The scratch buffers, at any contents. -/
def scratch (c : Dev nD) : sProp 𝕄 := iprop(anyBuf c cc0_scratch0 ∗ anyBuf c cc0_scratch1 ∗ anyBuf c cc0_scratch2 ∗ anyBuf c cc0_scratch3)

section Body

variable (x : Dev nD → (cc0_stg0_0 : Ref sig .tc).ty.Contents (Elt F)) (K : Dev nD × CI → ℕ) (c : Dev nD)

def bodyPre : sProp 𝕄 :=
  iprop((facts (alone x) (paired x) K ∗ handshake c ∗ copies c copy ∗ scratch c) ∗ owing c (O₀ c)
    ∗ (((c : Thread nD τ).loc cc0_stg0_0) ↦{fullShare} x c) ∗ anyBuf c cc0_stg1_0)

def bodyPost : sProp 𝕄 :=
  iprop((scratch c ∗ copies c closed ∗ semVal (barCell c) 0) ∗ owing c 0
    ∗ (((c : Thread nD τ).loc cc0_stg0_0) ↦{fullShare} x c)
    ∗ (((c : Thread nD τ).loc cc0_stg1_0) ↦{fullShare} (glued (final x c) : Buf (Elt F) ((c : Thread nD τ).loc cc0_stg1_0))))

/-- A signal to the peer at distance `d`, handing over the slots its copies will land in. -/
theorem wp_signal_peer (d : Fin 4) (hd : d ∈ ({1, 2, 3} : Finset (Fin 4))) {n : Dev nD} (hn : n = peer d c) {k' : ℕ} (hk : k' = 1) {α : Type}
    {Q : α → sProp 𝕄} {k : PUnit → Prog (TpuEff nD τ sig (Elt F) Λ₀ .tc) α} {O : CellTallies nD τ sig Unit} :
    iprop(facts (alone x) (paired x) K ∗ owing c (O + tallyAt (barCell (peer d c)) () 1) ∗ dutyTok ER (barCell (peer d c)) 0 d ∗ barPay (peer d c) d)
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS k') k) Q) := by
  subst hn hk
  iintro ⟨#Hf, ⟨%W, HO⟩, Ht, Hp⟩ Hk
  ihave H1 := (facts_cell (peer d c, .inl ())) $$ Hf
  icases H1 with ⟨#HI, #HR⟩
  iapply (Rounds.wp_signal 𝒱₀ ER (rd (alone x) (paired x)) (c : Thread nD τ) none (dst := (peer d c : Thread nD τ)) (κ := K (peer d c, .inl ()))
      (d := d) (by rw [duties_bar]; exact hd) rfl () O rfl) $$ [HO Ht Hp]
  · isplitr; · iexact HI
    isplitl [HO]; · iexact HO
    isplitl [Ht]; · iexact Ht
    isplitl [Hp]; · rw [payload_bar]; iexact Hp
    iexact HR
  iintro HO
  iapply Hk; iexists W; iexact HO

/-- The wait for the three peers' signals: their slots come with them, and the barrier's count is back at zero. -/
theorem wp_wait_peers {k' : ℕ} (hk : k' = 3) {α : Type}
    {Q : α → sProp 𝕄} {k : PUnit → Prog (TpuEff nD τ sig (Elt F) Λ₀ .tc) α} {O : CellTallies nD τ sig Unit} (hO : Above 1 O) :
    iprop(facts (alone x) (paired x) K ∗ atPos ER (barCell c) 0 ∅ 0 ∗ cred (tallyAt (barCell c) () 3) ∗ owing c O)
      ⊢ iprop(((semVal (barCell c) 0 ∗ (barPay c 1 ∗ barPay c 2 ∗ barPay c 3) ∗ owing c O)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk
  iintro ⟨#Hf, Hat, Hc, ⟨%W, HO⟩⟩ Hk
  ihave H1 := (facts_cell (c, .inl ())) $$ Hf
  icases H1 with ⟨#HI, -⟩
  ihave Hl := facts_lev $$ Hf
  iapply (Rounds.wp_wait_rest_token 𝒱₀ ER (rd (alone x) (paired x)) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) 1 (le_refl 1) hO); iexact Hl
    iexact Hat
  iintro ⟨HO, Hat, -, Hpay⟩
  ihave Hp := (Entails.of_eq (rest_bar (alone x) (paired x) c)) $$ Hpay
  imod (Rounds.cell_close ER (rd (alone x) (paired x)) (Set.mem_univ (K (c, .inl ()))) (fun h => h) (R := 0 + 1)
      (duties_later (alone x) (paired x) (barCell c))) $$ [Hat] with Hz
  · isplitr; · iexact HI
    iexact Hat
  iapply Hk
  isplitl [Hz]; · iexact Hz
  isplitl [Hp]; · iexact Hp
  iexists _; iexact HO

set_option maxHeartbeats 1600000 in
theorem sound_body (Q : PUnit → sProp 𝕄) :
    iprop(bodyPre x K c ∗ (bodyPost x c -∗ Q ⟨⟩))
      ⊢ wp frame (wpE (defs₀ (F := F)) 𝒱₀ (c : Thread nD τ) none) Set.univ
          (cc0_body xM (Memref.isWhole_whole _) oM (Memref.isWhole_whole _) sM (Memref.isWhole_whole _) rM (Memref.isWhole_whole _)
            aM (Memref.isWhole_whole _) lM (Memref.isWhole_whole _) cc0_scratch4 cc0_scratch5) Q := by
  simp only [cc0_body_eq_skeleton]; unfold cc0_body_skel
  simp only [k0_part49_eq_skeleton]; unfold k0_part49_skel
  simp only [semSignalWord, semWaitWord, Prog.lift, Prog.bind_op, Prog.bind_ret, Prog.pure_eq_ret, wp_deviceId]
  unfold bodyPre handshake scratch
  rw [copies_eq]
  iintro ⟨⟨⟨#Hf, ⟨Hat, Hc, Ht1, Ht2, Ht3⟩, ⟨H00, H01, H10, H11, H20, H21, H30, H31⟩, Hs, Hr, Ha, Hl⟩, HO, Hx, Ho⟩, HQ⟩
  ihave Hr := (split_r c) $$ Hr
  icases Hr with ⟨Hr0, Hr1⟩
  ihave Hl := (split_l c) $$ Hl
  icases Hl with ⟨Hl00, Hl01, Hl02, Hl10, Hl11, Hl12⟩
  unfold O₀
  iapply (wp_signal_peer x K c 1 (by decide) (dev1_eq c) rfl) $$ [HO Ht1 Hr0 Hr1 Hl00 Hl10]
  · isplitr; · iexact Hf
    isplitl [HO]; · iexact HO
    isplitl [Ht1]; · iexact Ht1
    unfold barPay; rw [peer_peer]
    isplitl [Hr0]; · iexact Hr0
    isplitl [Hr1]; · iexact Hr1
    isplitl [Hl00]; · iexact Hl00
    iexact Hl10
  iintro HO
  iapply (wp_signal_peer x K c 2 (by decide) (dev2_eq c) rfl) $$ [HO Ht2 Hl01 Hl11]
  · isplitr; · iexact Hf
    isplitl [HO]; · iexact HO
    isplitl [Ht2]; · iexact Ht2
    unfold barPay; rw [peer_peer]
    isplitl [Hl01]; · iexact Hl01
    iexact Hl11
  iintro HO
  iapply (wp_signal_peer x K c 3 (by decide) (dev3_eq c) rfl) $$ [HO Ht3 Hl02 Hl12]
  · isplitr; · iexact Hf
    isplitl [HO]; · iexact HO
    isplitl [Ht3]; · iexact Ht3
    unfold barPay; rw [peer_peer]
    isplitl [Hl02]; · iexact Hl02
    iexact Hl12
  iintro HO
  iapply (wp_wait_peers x K c rfl (above_O₁ (by decide) c)) $$ [HO Hat Hc]
  · isplitr; · iexact Hf
    isplitl [Hat]; · iexact Hat
    isplitl [Hc]; · iexact Hc
    iexact HO
  unfold barPay
  iintro ⟨Hz, ⟨⟨Hd00, Hd01, Hd10, Hd11⟩, ⟨Hd20, Hd21⟩, ⟨Hd30, Hd31⟩⟩, HO⟩
  ihave Hs := (split_s c) $$ Hs
  icases Hs with ⟨Hs0, Hs1⟩
  ihave Ha := (split_a c) $$ Ha
  icases Ha with ⟨Ha0, Ha1⟩
  ihave Ho := (split_o c) $$ Ho
  icases Ho with ⟨Ho0, Ho1⟩
  -- each device's own chunks
  iapply (wp_loop2 c k0_t1_ok (by decide) _ (fun k => thread c (alone x) (paired x) K (x c) (O₁ c k)) (pre₁ c) (post₁ c (alone x))
    (fun ch k hk Q => trip1 c (x c) _ _ _ (fun ch => rfl) ch k hk Q)) $$ [HO Hx H00 H01 Hs0 Hs1 Hd00 Hd01]
  · unfold thread pre₁
    isplitl [HO Hx]
    · isplitr; · iexact Hf
      isplitl [HO]; · iexact HO
      iexact Hx
    isplitl [H00 Hs0 Hd00]
    · isplitl [H00]; · iexact H00
      isplitl [Hs0]; · iexact Hs0
      iexact Hd00
    isplitl [H01]; · iexact H01
    isplitl [Hs1]; · iexact Hs1
    iexact Hd01
  iintro ⟨Hth, Hp0, Hp1⟩
  -- the pairs
  iapply (wp_loop2 c k0_t2_ok (by decide) _ (fun k => thread c (alone x) (paired x) K (x c) (O₂ c k)) (pre₂ c (alone x)) (post₂ c (alone x) (paired x))
    (fun ch k hk Q => trip2 c (x c) _ _ _ _ _ (fun ch => rfl) ch k hk Q)) $$ [Hth Hp0 Hp1 H10 H11 H20 H21 H30 H31 Ha0 Ha1 Hd10 Hd11 Hd20 Hd21 Hd30 Hd31]
  · isplitl [Hth]; · iexact Hth
    unfold pre₂
    isplitl [Hp0 H10 H20 H30 Ha0 Hd10 Hd20 Hd30]
    · isplitl [Hp0]; · iexact Hp0
      isplitl [H10 H20 H30]
      · isplitl [H10]; · iexact H10
        isplitl [H20]; · iexact H20
        iexact H30
      isplitl [Ha0]; · iexact Ha0
      isplitl [Hd10]; · iexact Hd10
      isplitl [Hd20]; · iexact Hd20
      iexact Hd30
    isplitl [Hp1]; · iexact Hp1
    isplitl [H11 H21 H31]
    · isplitl [H11]; · iexact H11
      isplitl [H21]; · iexact H21
      iexact H31
    isplitl [Ha1]; · iexact Ha1
    isplitl [Hd11]; · iexact Hd11
    isplitl [Hd21]; · iexact Hd21
    iexact Hd31
  unfold post₂
  iintro ⟨Hth, ⟨⟨Hn0, Hs0, Hr0⟩, Hf0, Ha0⟩, ⟨⟨Hn1, Hs1, Hr1⟩, Hf1, Ha1⟩⟩
  -- the whole
  iapply (wp_loop2 c k0_t3_ok (by decide) _ (fun _ => thread c (alone x) (paired x) K (x c) 0) (pre₃ c (paired x)) (post₃ c (paired x) (final x c))
    (fun ch k hk Q => trip3 c (x c) _ _ _ _ _ (final x c) (fun ch => rfl) ch k hk Q)) $$ [Hth Hf0 Ha0 Ho0 Hf1 Ha1 Ho1]
  · isplitl [Hth]; · iexact Hth
    unfold pre₃
    isplitl [Hf0 Ha0 Ho0]
    · isplitl [Hf0]; · iexact Hf0
      isplitl [Ha0]; · iexact Ha0
      iexact Ho0
    isplitl [Hf1]; · iexact Hf1
    isplitl [Ha1]; · iexact Ha1
    iexact Ho1
  unfold post₃
  iintro ⟨Hth, ⟨Hm0, Ha0, Ho0, Hl00, Hl01, Hl02⟩, ⟨Hm1, Ha1, Ho1, Hl10, Hl11, Hl12⟩⟩
  -- the copies sent come to their end
  iapply (wp_loop2 c k0_t4_ok (by decide) _ (fun _ => thread c (alone x) (paired x) K (x c) 0) (pre₄ c (alone x) (paired x)) (post₄ c)
    (fun ch k hk Q => trip4 c (x c) ch k hk Q)) $$ [Hth Hn0 Hm0 Hs0 Ha0 Hn1 Hm1 Hs1 Ha1]
  · isplitl [Hth]; · iexact Hth
    unfold pre₄
    isplitl [Hn0 Hm0 Hs0 Ha0]
    · isplitl [Hn0 Hm0]
      · isplitl [Hn0]; · iexact Hn0
        iexact Hm0
      isplitl [Hs0]; · iexact Hs0
      iexact Ha0
    isplitl [Hn1 Hm1]
    · isplitl [Hn1]; · iexact Hn1
      iexact Hm1
    isplitl [Hs1]; · iexact Hs1
    iexact Ha1
  unfold post₄ thread
  iintro ⟨⟨-, HO, Hx⟩, ⟨⟨Hc00, Hc10, Hc20, Hc30⟩, Hs0, Ha0⟩, ⟨⟨Hc01, Hc11, Hc21, Hc31⟩, Hs1, Ha1⟩⟩
  rw [wp_ret]; imodintro
  iapply HQ
  unfold bodyPost scratch
  rw [copies_eq]
  isplitl [Hs0 Hs1 Hr0 Hr1 Ha0 Ha1 Hl00 Hl01 Hl02 Hl10 Hl11 Hl12 Hc00 Hc01 Hc10 Hc11 Hc20 Hc21 Hc30 Hc31 Hz]
  · isplitl [Hs0 Hs1 Hr0 Hr1 Ha0 Ha1 Hl00 Hl01 Hl02 Hl10 Hl11 Hl12]
    · isplitl [Hs0 Hs1]
      · iapply (join_s c); isplitl [Hs0]; · iexact Hs0
        iexact Hs1
      isplitl [Hr0 Hr1]
      · iapply (join_r c); isplitl [Hr0]; · iexists _; iexact Hr0
        iexists _; iexact Hr1
      isplitl [Ha0 Ha1]
      · iapply (join_a c); isplitl [Ha0]; · iexact Ha0
        iexact Ha1
      iapply (join_l c)
      isplitl [Hl00]; · iexact Hl00
      isplitl [Hl01]; · iexact Hl01
      isplitl [Hl02]; · iexact Hl02
      isplitl [Hl10]; · iexact Hl10
      isplitl [Hl11]; · iexact Hl11
      iexact Hl12
    isplitl [Hc00 Hc01 Hc10 Hc11 Hc20 Hc21 Hc30 Hc31]
    · isplitl [Hc00]; · iexact Hc00
      isplitl [Hc01]; · iexact Hc01
      isplitl [Hc10]; · iexact Hc10
      isplitl [Hc11]; · iexact Hc11
      isplitl [Hc20]; · iexact Hc20
      isplitl [Hc21]; · iexact Hc21
      isplitl [Hc30]; · iexact Hc30
      iexact Hc31
    iexact Hz
  isplitl [HO]; · iexact HO
  isplitl [Hx]; · iexact Hx
  iapply (join_o c (final x c))
  isplitl [Ho0]; · iexact Ho0
  iexact Ho1

end Body

end Cert.KernelIdeal.Sort

end
-- ==== Proof.Run.lean ====
/-
  The launch on all four devices: what each starts from, made of the launch's resources, and the run of the program.
-/
module

public import proofs.«01_k».proof.Proof.Body
public import Idealize.ShloMosaic.Lib.Pipeline.CollectiveSegs

@[expose] public section

noncomputable section

namespace Cert.KernelIdeal.Sort

open Cert.KernelIdeal Cert.KernelIdeal.Gen
open Idealize.ShloMosaic
open Idealize.ShloMosaic.TcCoe
open Idealize.ShloMosaic.Tactic
open Idealize.SL Idealize.SL.RA Idealize.SL.BI Idealize.SL.Sem
open scoped Idealize.SL.BI
open Idealize.SL.BI.BIBase Idealize.SL.BI.Laws
open Idealize.SL.ProofMode hiding frame
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- A device's rows of the argument, as staged. -/
def staged (c : Dev nD) : (cc0_stg0_0 : Ref sig .tc).ty.Contents (Elt F) :=
  (win0_0.blk (0 : Fin 1)).view.read (Elt F) ((s₀ m ρ).mem ((c : Thread nD τ).loc main_arg0))

/-- The two phases' values at launch. -/
abbrev aloneAt : Dev nD → Fin 2 → FVec F S2048x256 .bf16 := alone (staged m ρ)
abbrev pairedAt : Dev nD → Fin 2 → FVec F S2048x256 .bf16 := paired (staged m ρ)

/-- A device's sorted rows. -/
def result (c : Dev nD) : (cc0_stg1_0 : Ref sig .tc).ty.Contents (Elt F) := glued (final (staged m ρ) c)

/-! ## The pipeline's data -/

def start (c : Dev nD) : sProp 𝕄 := iprop(∃ K, facts (aloneAt m ρ) (pairedAt m ρ) K ∗ handshake c ∗ copies c copy)
def Φ₀ (c : Dev nD) : sProp 𝕄 := iprop(start m ρ c ∗ scratch c)
def Φ₁ (c : Dev nD) : sProp 𝕄 := iprop(scratch c ∗ copies c closed ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => staged m ρ c
    | ⟨1, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
/-- The body meets the pipeline's obligation. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  show iprop(Φ₀ m ρ c ∗ (dats m ρ 0 c).owesAt () (t0_0 : Fin cfg0.N).castSucc
      ∗ (∃ d, stg c cc0_stg0_0 ((dats m ρ 0 c).before (0 : Fin 2) t0_0 d))
      ∗ (∃ d, stg c cc0_stg1_0 ((dats m ρ 0 c).before (1 : Fin 2) t0_0 d)))
    ⊢ wp frame (wpE (defs₀ (F := F)) 𝒱₀ c none) Set.univ
        (cc0_body xM (Memref.isWhole_whole _) oM (Memref.isWhole_whole _) sM (Memref.isWhole_whole _) rM (Memref.isWhole_whole _)
          aM (Memref.isWhole_whole _) lM (Memref.isWhole_whole _) cc0_scratch4 cc0_scratch5)
        (fun _ => iprop(Φ₁ c ∗ (dats m ρ 0 c).owesAt () (t0_0 : Fin cfg0.N).succ ∗ stg c cc0_stg0_0 (staged m ρ c) ∗ stg c cc0_stg1_0 (result m ρ c)))
  unfold Φ₀ start Dat.owesAt Pipeline.owesWithin
  rw [show (dats m ρ 0 c).owed (t0_0 : Fin cfg0.N).castSucc = O₀ c from rfl, show (dats m ρ 0 c).owed (t0_0 : Fin cfg0.N).succ = 0 from rfl]
  iintro ⟨⟨⟨%K, Hf, Hh, Hc⟩, Hs⟩, ⟨%W, %hW, HO⟩, ⟨%d0, %g0, %hg0, Hx⟩, ⟨%d1, %g1, %hg1, Ho⟩⟩
  have hx : g0 = staged m ρ c := by rw [hg0]; unfold Dat.before; rw [if_pos (fetch_x t0_0)]; rfl
  subst hx
  iapply (sound_body (staged m ρ) K c)
  unfold bodyPre bodyPost Φ₁
  isplitl [Hf Hh Hc Hs HO Hx Ho]
  · isplitl [Hf Hh Hc Hs]
    · isplitl [Hf]; · iexact Hf
      isplitl [Hh]; · iexact Hh
      isplitl [Hc]; · iexact Hc
      iexact Hs
    isplitl [HO]; · iexists W; iexact HO
    isplitl [Hx]; · iexact Hx
    iexists g1; iexact Ho
  iintro ⟨H, ⟨%W', HO⟩, Hx, Ho⟩
  isplitl [H]; · iexact H
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The cells and the duties -/

theorem ownSemFacts : Pipeline.OwnSemFacts cfg0.spec osem := by decide

theorem csem_injective : Function.Injective csem := by decide

theorem kcell_injective : Function.Injective (kcell : Dev nD × CI → GSem nD τ sig) := by
  rintro ⟨c, k⟩ ⟨c', k'⟩ h
  exact Prod.ext (congrArg (fun g : GSem nD τ sig => g.1.1) h) (csem_injective (congrArg Prod.snd h))
def allCells : Finset (GSem nD τ sig) := Finset.univ.map ⟨kcell, kcell_injective⟩

/-- The duties' index: the barrier's three, the senders', the receivers'; a duty's semaphore, its name, and the device at
    whose cell device `c` pays it. -/
abbrev TI : Type := Fin 3 ⊕ (KI ⊕ KI)
abbrev tsem : TI → SemLoc sig
  | .inl _ => .reg barS
  | .inr k => osem k
abbrev duty : TI → Fin 4
  | .inl j => j.succ
  | .inr _ => 0
def payee : TI → Dev nD → Dev nD
  | .inl j, c => peer j.succ c
  | .inr (.inl _), c => c
  | .inr (.inr k), c => pal k.1 c

theorem payee_payee (j : TI) (c : Dev nD) : payee j (payee j c) = c := by
  rcases j with j | k | k
  · exact peer_peer _ _
  · rfl
  · exact peer_peer _ _

abbrev tokOf (cj : Dev nD × TI) : GSem nD τ sig × ℕ × Fin 4 := (((cj.1 : Thread nD τ), tsem cj.2), 0, duty cj.2)
theorem tdut_injective : Function.Injective fun j : TI => (tsem j, duty j) := by decide
theorem tokOf_injective : Function.Injective (tokOf : Dev nD × TI → GSem nD τ sig × ℕ × Fin 4) := by
  rintro ⟨c, j⟩ ⟨c', j'⟩ h
  exact Prod.ext (congrArg (fun x : GSem nD τ sig × ℕ × Fin 4 => x.1.1.1) h)
    (tdut_injective (congrArg (fun x : GSem nD τ sig × ℕ × Fin 4 => (x.1.2, x.2.2)) h))
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The duties of device `c`'s cells, and those device `c` pays. -/
def toks (c : Dev nD) : sProp 𝕄 := bigSep Finset.univ fun j : TI => dutyTok ER ((c : Thread nD τ), tsem j) 0 (duty j)
def payToks (c : Dev nD) : sProp 𝕄 := bigSep Finset.univ fun j : TI => dutyTok ER ((payee j c : Thread nD τ), tsem j) 0 (duty j)

/-- Each duty with the device it is paid at, and with the device that pays it. -/
def turn : Dev nD × TI ≃ Dev nD × TI where
  toFun x := (payee x.2 x.1, x.2)
  invFun x := (payee x.2 x.1, x.2)
  left_inv x := Prod.ext (payee_payee x.2 x.1) rfl
  right_inv x := Prod.ext (payee_payee x.2 x.1) rfl

theorem toks_around : (bigSep Finset.univ fun c : Dev nD => (toks c : sProp 𝕄)) = bigSep Finset.univ fun c : Dev nD => payToks c := by
  unfold toks payToks
  rw [← bigSep_univ_prod (fun x : Dev nD × TI => (dutyTok ER ((x.1 : Thread nD τ), tsem x.2) 0 (duty x.2) : sProp 𝕄)),
    ← bigSep_univ_prod (fun x : Dev nD × TI => (dutyTok ER ((payee x.2 x.1 : Thread nD τ), tsem x.2) 0 (duty x.2) : sProp 𝕄))]
  exact bigSep_univ_equiv turn fun x : Dev nD × TI => (dutyTok ER ((x.1 : Thread nD τ), tsem x.2) 0 (duty x.2) : sProp 𝕄)

/-! ## The launch's update -/

/-- What a device is dealt, -/
def dealt (c : Dev nD) : sProp 𝕄 :=
  iprop((bigSep Finset.univ fun k : CI => roundState ER (rd (aloneAt m ρ) (pairedAt m ρ)) (kcell (c, k)) 0)
    ∗ (bigSep Finset.univ fun k : CI => iprop(atPos ER (kcell (c, k)) 0 ∅ 0 ∗ reached ER (kcell (c, k)) 0)) ∗ toks c)
/-- and what the devices together make of it: the cells' invariants, known to all, and each its own places and duties. -/
def known (K : Dev nD × CI → ℕ) : sProp 𝕄 :=
  bigSep Finset.univ fun ck => iprop(cellInv ER (rd (aloneAt m ρ) (pairedAt m ρ)) (K ck) (kcell ck) ∗ reached ER (kcell ck) 0)
def ready (c : Dev nD) : sProp 𝕄 :=
  iprop(∃ K, known m ρ K ∗ (bigSep Finset.univ fun k : CI => atPos ER (kcell (c, k)) 0 ∅ 0) ∗ payToks c)

instance known_persistent (K : Dev nD × CI → ℕ) : BI.Persistent (known m ρ K) := by unfold known; infer_instance

theorem deal : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd (aloneAt m ρ) (pairedAt m ρ)) allCells allToks) $$ HX with ⟨Hst, Hr, Hat, Htok⟩
  imodintro
  ihave Hst' := (Entails.of_eq (hX fun g => roundState ER (rd (aloneAt m ρ) (pairedAt m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero are its cells'. -/
theorem sems0_eq (c : Dev nD) :
    (bigSep Finset.univ fun k : CI => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, show (bigSep Finset.univ fun k : CI => (semVal (kcell (c, k)) 0 : sProp 𝕄)) = _ from BI.bigSep_univ_sum _,
    bigSep_eq_bigSepL_of_eq (S := (Finset.univ : Finset Unit)) [()] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop((∃ κ : ℕ, cellInv ER (rd (aloneAt m ρ) (pairedAt m ρ)) κ (kcell (c, k))) ∗ reached ER (kcell (c, k)) 0))
          ∗ (bigSep Finset.univ fun k => atPos ER (kcell (c, k)) 0 ∅ 0) ∗ toks c) := by
  unfold dealt
  simp only [bigSep_sep']
  have hinv : iprop((bigSep Finset.univ fun k : CI => semVal (kcell (c, k)) 0) ∗ bigSep Finset.univ fun k : CI => roundState ER (rd (aloneAt m ρ) (pairedAt m ρ)) (kcell (c, k)) 0)
      ⊢ (|={Set.univ}=> bigSep Finset.univ fun k => iprop(∃ κ : ℕ, cellInv ER (rd (aloneAt m ρ) (pairedAt m ρ)) κ (kcell (c, k))) : sProp 𝕄) := by
    rw [← bigSep_sep']
    exact (bigSep_mono fun k _ => (Rounds.body_intro ER (rd (aloneAt m ρ) (pairedAt m ρ)) (kcell (c, k))).trans inv_alloc).trans (bigSep_fupd _ _)
  iintro ⟨Hos, Hus, Hst, ⟨Hat, Hr⟩, Htok⟩
  imod hinv $$ [Hos Hus Hst] with Hinv
  · isplitl [Hos Hus]
    · rw [sems0_eq]; isplitl [Hus]; · iexact Hus
      iexact Hos
    iexact Hst
  imodintro
  isplitl [Hinv Hr]
  · isplitl [Hinv]; · iexact Hinv
    iexact Hr
  isplitl [Hat]; · iexact Hat
  iexact Htok

theorem regroup :
    (bigSep Finset.univ fun c : Dev nD => iprop((bigSep Finset.univ fun k => iprop((∃ κ : ℕ, cellInv ER (rd (aloneAt m ρ) (pairedAt m ρ)) κ (kcell (c, k))) ∗ reached ER (kcell (c, k)) 0))
          ∗ (bigSep Finset.univ fun k => atPos ER (kcell (c, k)) 0 ∅ 0) ∗ toks c) : sProp 𝕄)
      ⊢ bigSep Finset.univ (ready m ρ) := by
  rw [bigSep_sep', bigSep_sep', toks_around, ← bigSep_univ_prod (fun ck : Dev nD × CI => iprop((∃ κ : ℕ, cellInv ER (rd (aloneAt m ρ) (pairedAt m ρ)) κ (kcell ck)) ∗ reached ER (kcell ck) 0)),
    bigSep_sep']
  iintro ⟨⟨HI, Hr⟩, Hat, Htok⟩
  ihave HK := (BI.bigSep_exists_pi Finset.univ (fun (ck : Dev nD × CI) (κ : ℕ) => (cellInv ER (rd (aloneAt m ρ) (pairedAt m ρ)) κ (kcell ck) : sProp 𝕄))) $$ HI
  icases HK with ⟨%K, HI⟩
  have hk : iprop((bigSep Finset.univ fun ck => cellInv ER (rd (aloneAt m ρ) (pairedAt m ρ)) (K ck) (kcell ck)) ∗ bigSep Finset.univ fun ck => reached ER (kcell ck) 0)
      ⊢ (known m ρ K : sProp 𝕄) := Entails.of_eq (by unfold known; rw [bigSep_sep'])
  have hall : iprop(known m ρ K ∗ bigSep Finset.univ fun c : Dev nD => iprop((bigSep Finset.univ fun k : CI => atPos ER (kcell (c, k)) 0 ∅ 0) ∗ payToks c))
      ⊢ (bigSep Finset.univ (ready m ρ) : sProp 𝕄) := by
    refine (BI.sep_mono (BI.bigSep_of_persistent (Finset.univ : Finset (Dev nD)) (known m ρ K)) (BI.Entails.refl _)).trans ?_
    refine (Entails.of_eq (bigSep_sep' Finset.univ (fun _ : Dev nD => known m ρ K)
      (fun c : Dev nD => iprop((bigSep Finset.univ fun k : CI => atPos ER (kcell (c, k)) 0 ∅ 0) ∗ payToks c))).symm).trans ?_
    refine bigSep_mono fun c _ => ?_
    show iprop(known m ρ K ∗ (bigSep Finset.univ fun k : CI => atPos ER (kcell (c, k)) 0 ∅ 0) ∗ payToks c) ⊢ ready m ρ c
    unfold ready
    iintro ⟨H1, H2⟩
    iexists K; isplitl [H1]; · iexact H1
    iexact H2
  iapply hall
  isplitl [HI Hr]
  · iapply hk; isplitl [HI]; · iexact HI
    iexact Hr
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => core_alloc m ρ c).trans (bigSep_fupd _ _)).trans (BI.fupd_mono (regroup m ρ))

/-! ## The credits -/

theorem bar_eq_iff {a b : Dev nD} : barCell a = barCell b ↔ a = b :=
  ⟨fun h => congrArg (fun g : GSem nD τ sig => g.1.1) h, fun h => h ▸ rfl⟩
theorem recvS_injective : ∀ k k' : KI, recvS k.1 k.2 = recvS k'.1 k'.2 → k = k' := by decide
theorem recv_eq_iff {a b : Dev nD} {d e : Fin 4} {ch ch' : Fin 2} : recvCell a d ch = recvCell b e ch' ↔ a = b ∧ d = e ∧ ch = ch' := by
  constructor
  · intro h
    have h1 : a = b := congrArg (fun g : GSem nD τ sig => g.1.1) h
    have h2 : SemLoc.dma (recvS d ch) = SemLoc.dma (recvS e ch') := congrArg Prod.snd h
    have h3 := recvS_injective (d, ch) (e, ch') (by injection h2)
    exact ⟨h1, congrArg Prod.fst h3, congrArg Prod.snd h3⟩
  · rintro ⟨rfl, rfl, rfl⟩; rfl
theorem bar_ne_recv {a b : Dev nD} {d : Fin 4} {ch : Fin 2} : barCell a ≠ recvCell b d ch := fun h => by
  have := congrArg Prod.snd h; cases this

/-- What device `e` owes a cell, term by term. -/
theorem O₀_apply (e : Dev nD) (g : GSem nD τ sig) : O₀ e g () =
    (((((if g = recvCell (pal 3 e) 3 1 then N else 0) + (if g = recvCell (pal 2 e) 2 1 then N else 0) + (if g = recvCell (pal 1 e) 1 1 then N else 0)
      + (if g = recvCell (pal 3 e) 3 0 then N else 0) + (if g = recvCell (pal 2 e) 2 0 then N else 0) + (if g = recvCell (pal 1 e) 1 0 then N else 0)
      + (if g = recvCell (pal 0 e) 0 1 then N else 0) + (if g = recvCell (pal 0 e) 0 0 then N else 0))
      + (if g = barCell (peer 3 e) then 1 else 0)) + (if g = barCell (peer 2 e) then 1 else 0)) + (if g = barCell (peer 1 e) then 1 else 0)) := by
  simp only [O₀, O₁, O₂, plusA, plusB, Pi.add_apply, Finsupp.add_apply, tallyAt_apply, and_true, Pi.zero_apply, Finsupp.zero_apply, Nat.zero_add]

theorem owed_bar (e c : Dev nD) : O₀ e (barCell c) () =
    (if c = peer 3 e then 1 else 0) + (if c = peer 2 e then 1 else 0) + (if c = peer 1 e then 1 else 0) := by
  rw [O₀_apply]; simp only [bar_ne_recv, bar_eq_iff, if_false, Nat.zero_add]

theorem pal_eq_iff (d : Fin 4) (c e : Dev nD) : c = pal d e ↔ e = pal d c :=
  ⟨fun h => by rw [h]; exact (peer_peer _ _).symm, fun h => by rw [h]; exact (peer_peer _ _).symm⟩

theorem owed_recv (e c : Dev nD) (d : Fin 4) (ch : Fin 2) : O₀ e (recvCell c d ch) () = if e = pal d c then N else 0 := by
  rw [O₀_apply]
  simp only [bar_ne_recv.symm, recv_eq_iff, if_false, Nat.add_zero]
  generalize N = n
  rw [if_congr (pal_eq_iff d c e).symm rfl rfl]
  fin_cases d <;> fin_cases ch <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun e _ => owed_bar e c]
  revert c; decide

theorem launch_recv (c : Dev nD) (d : Fin 4) (ch : Fin 2) :
    tallyOn (recvCell c d ch) (launchCredit (Pipeline.owing O₀) 0 (recvCell c d ch)) = (tallyAt (recvCell c d ch) () N : CellTallies nD τ sig Unit) := by
  unfold tallyAt; refine congrArg _ (Finsupp.ext fun u => ?_); cases u
  rw [Pipeline.launchCredit_owing, Finsupp.single_eq_same, Finset.sum_congr rfl fun e _ => owed_recv e c d ch,
    Finset.sum_ite_eq' Finset.univ (pal d c) fun _ => N, if_pos (Finset.mem_univ _)]

theorem creds (c : Dev nD) :
    (Pipeline.launchCred O₀ c : sProp 𝕄) ⊢ iprop(cred (tallyAt (barCell c) () 3) ∗ bigSep Finset.univ fun k : KI => cred (tallyAt (recvCell c k.1 k.2) () N)) := by
  have hi : Set.InjOn (fun k : Unit ⊕ KI => csem (k.map id Sum.inr)) (Finset.univ : Finset (Unit ⊕ KI)) := fun a _ b _ h => by
    have := csem_injective h
    rcases a with ⟨⟩ | a <;> rcases b with ⟨⟩ | b <;> simp_all
  unfold Pipeline.launchCred
  refine (bigSep_subset (t := Finset.univ.image fun k : Unit ⊕ KI => csem (k.map id Sum.inr)) (Finset.subset_univ _)).trans ?_
  rw [bigSep_image_of_injOn hi]
  refine (Entails.of_eq (BI.bigSep_univ_sum _)).trans ?_
  rw [bigSep_eq_bigSepL_of_eq (S := (Finset.univ : Finset Unit)) [()] (by decide) (by decide)]
  show iprop(cred (tallyOn (barCell c) (launchCredit (Pipeline.owing O₀) 0 (barCell c)))
    ∗ bigSep Finset.univ fun k : KI => cred (tallyOn (recvCell c k.1 k.2) (launchCredit (Pipeline.owing O₀) 0 (recvCell c k.1 k.2)))) ⊢ _
  rw [launch_bar]
  simp only [launch_recv]
  exact BI.Entails.refl _

/-! ## The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  unfold ready payToks
  rw [show (bigSep Finset.univ fun k : CI => (atPos ER (kcell (c, k)) 0 ∅ 0 : sProp 𝕄))
      = iprop(atPos ER (barCell c) 0 ∅ 0 ∗ (bigSep Finset.univ fun k : KI => atPos ER (sendCell c k.1 k.2) 0 ∅ 0) ∗ bigSep Finset.univ fun k : KI => atPos ER (recvCell c k.1 k.2) 0 ∅ 0) from by
        rw [show (bigSep Finset.univ fun k : CI => (atPos ER (kcell (c, k)) 0 ∅ 0 : sProp 𝕄)) = _ from BI.bigSep_univ_sum _, BI.bigSep_univ_sum,
          bigSep_eq_bigSepL_of_eq (S := (Finset.univ : Finset Unit)) [()] (by decide) (by decide)]
        rfl,
    show (bigSep Finset.univ fun j : TI => (dutyTok ER ((payee j c : Thread nD τ), tsem j) 0 (duty j) : sProp 𝕄))
      = iprop((dutyTok ER (barCell (peer 1 c)) 0 1 ∗ dutyTok ER (barCell (peer 2 c)) 0 2 ∗ dutyTok ER (barCell (peer 3 c)) 0 3)
        ∗ (bigSep Finset.univ fun k : KI => dutyTok ER (sendCell c k.1 k.2) 0 0) ∗ bigSep Finset.univ fun k : KI => dutyTok ER (recvCell (pal k.1 c) k.1 k.2) 0 0) from by
        rw [show (bigSep Finset.univ fun j : TI => (dutyTok ER ((payee j c : Thread nD τ), tsem j) 0 (duty j) : sProp 𝕄)) = _ from BI.bigSep_univ_sum _, BI.bigSep_univ_sum,
          bigSep_eq_bigSepL_of_eq (S := (Finset.univ : Finset (Fin 3))) [0, 1, 2] (by decide) (by decide)]
        rfl]
  iintro ⟨-, Hlev, Hcr, -, ⟨%K, Hk, ⟨HaB, HaS, HaR⟩, ⟨Ht1, Ht2, Ht3⟩, HtS, HtR⟩⟩
  ihave Hc := (creds (F := F) c) $$ Hcr
  icases Hc with ⟨HcB, HcR⟩
  imodintro
  unfold start facts handshake copies copy
  simp only [bigSep_sep']
  isplitl
  · iexists K
    isplitl [Hk Hlev]
    · isplitl [Hk]
      · unfold known; simp only [bigSep_sep']; iexact Hk
      iexact Hlev
    isplitl [HaB HcB Ht1 Ht2 Ht3]
    · isplitl [HaB]; · iexact HaB
      isplitl [HcB]; · iexact HcB
      isplitl [Ht1]; · iexact Ht1
      isplitl [Ht2]; · iexact Ht2
      iexact Ht3
    isplitl [HtS]; · iexact HtS
    isplitl [HtR]; · iexact HtR
    isplitl [HaS]; · iexact HaS
    isplitl [HaR]; · iexact HaR
    iexact HcR
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch copies closed Pipeline.ownSems0
  rw [show (bigSep Finset.univ fun k : KI ⊕ KI => (semVal ((c : Thread nD τ), osem k) 0 : sProp 𝕄))
      = iprop((bigSep Finset.univ fun k : KI => semVal (sendCell c k.1 k.2) 0) ∗ bigSep Finset.univ fun k : KI => semVal (recvCell c k.1 k.2) 0)
      from BI.bigSep_univ_sum _, bigSep_sep']
  iintro ⟨Hr, ⟨HzS, HzR⟩, HzB⟩
  isplitl [HzB]; · iexact HzB
  isplitl [HzS HzR]
  · isplitl [HzS]; · iexact HzS
    iexact HzR
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by revert c; fin_cases w <;> fin_cases s <;> decide) (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero every run ends, with each device's arrays at the computed contents and all
    counters back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (deal m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The argument is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Sort

end
-- ==== Proof.Claims.lean ====
/-
  The programs' runs as the claims ask for them: what each leaves in its argument, in its result and in its semaphores.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.KernelIdeal.Sort

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- What is staged is the argument itself: the one window is the whole array. -/
theorem staged_eq (c : Dev nD) : staged m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))

/-- The result array is left holding what the body left in its staging buffer. -/
theorem finalA_o (c : Dev nD) : finalA m ρ c (1 : Fin 2) = (result m ρ c : Buf (Elt F) ((c : Thread nD τ).loc main_v1)) := by
  have h : (win0_1.blk (0 : Fin 1)).view.read (Elt F) (finalA m ρ c (1 : Fin 2)) = result m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

/-- The kernel's run: on every device the result is the glued sorted chunks of the devices' arguments, the argument is
    kept, and every semaphore is at zero again. -/
theorem run_value : θ_run defs (onTc (τ := τ) (main (F := F))) (s₀ m ρ) (fun r =>
    (∀ c : Dev nD, r.2.mem ((c : Thread nD τ).loc main_v1) = glued (final (fun d : Dev nD => m ((d : Thread nD τ).loc main_arg0)) c)
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans ((finalA_o m ρ c).trans
      (by unfold result; rw [show staged m ρ = fun d : Dev nD => m ((d : Thread nD τ).loc main_arg0) from funext (staged_eq m ρ)])),
    (h.1 c (0 : Fin 2)).trans (finalA_x m ρ c)⟩, h.2⟩) (run_main m ρ)

/-- The run with the result dropped. -/
theorem run_frame : θ_run defs (onTc (τ := τ) (main (F := F))) (s₀ m ρ) (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_value m ρ)

end Cert.KernelIdeal.Sort

namespace Cert.Proof

open Idealize.ShloMosaic Idealize.ShloMosaic.TcCoe
open Idealize.SL.Sem

/-- The two kernels' bodies are one text, -/
theorem defs₀_eq {F : FTy → Type} [FloatOps F] : Cert.Kernel.defs₀ (F := F) = Cert.KernelIdeal.defs₀ (F := F) :=
  congrArg Defs.onTc (funext fun ℓ : Fin 1 => by fin_cases ℓ; rfl)

/-- and so are their body tables. -/
theorem defs_eq {F : FTy → Type} [FloatOps F] : Cert.Kernel.defs (F := F) = Cert.KernelIdeal.defs (F := F) :=
  congrArg (Pipeline.defs Cert.KernelIdeal.pcfgs) defs₀_eq

/-- The printed kernel keeps its argument and ends quiescent: it is the idealized kernel's text, run on floats as bits. -/
theorem frame_kernel : Cert.quiescent_Kernel := fun m ρ _ => by
  rw [defs_eq]
  exact Cert.KernelIdeal.Sort.run_frame (F := Bits) m ρ

/-- So does the idealized kernel, -/
theorem frame_kernelIdeal : Cert.quiescent_KernelIdeal := fun m ρ _ => Cert.KernelIdeal.Sort.run_frame (F := Ideal) m ρ

/-- and the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Network.lean ====
/-
  Four sorted blocks merged into one sorted column, as a compare-exchange network.

  A column of `2 ^ (p + 2)` entries lies in four blocks of `2 ^ p`. `aloneNet d` sorts every block within itself, block `c`
  descending where `d c`; then the two bitonic levels of `SortNet.levelNet` merge the blocks in pairs and the pairs into the
  whole. `fourSorted` says that with the odd blocks descending the outcome ascends. Beside it stands what each of the three parts
  does on one block, in the terms a device holding that block computes: `apply_aloneNet`, `apply_pairs`, `apply_whole`.
-/
module

public import Idealize.ShloMosaic.Lib.SortNet.Printed
public import Idealize.ShloMosaic.Lib.SortNet.Sorts
public import Mathlib.Data.List.OfFn
public import Mathlib.Data.List.Sort
public import Mathlib.Data.List.FinRange

@[expose] public section

namespace Cert.KernelIdeal.Sort

open Idealize.ShloMosaic Idealize.ShloMosaic.SortNet

variable {α : Type*} [LinearOrder α]

/-! ## One stage, read at one position -/

/-- A stage whose direction is the same at a position and its partner: the larger of the two entries stays at a position whose
    bit is clear if the direction is down, at one whose bit is set if it is up. -/
theorem apply_stage_at {p s : Nat} (hs : s < p) (w : Fin (2 ^ p) → Bool) (hw : ∀ i, w (partner p s i) = w i)
    (v : Fin (2 ^ p) → α) (i : Fin (2 ^ p)) :
    Network.apply (SortNet.stage p s w) v i
      = if decide (i.val &&& 2 ^ s = 0) = w i then max (v i) (v (partner p s i)) else min (v i) (v (partner p s i)) := by
  by_cases hi : i.val &&& 2 ^ s = 0
  · rw [(apply_stage hs w v i hi).1, decide_eq_true hi]
    cases w i <;> rfl
  · have h := (apply_stage hs w v (partner p s i) (partner_and_of_set hs i hi)).2
    rw [partner_partner hs, hw i] at h
    rw [h, decide_eq_false hi]
    cases w i
    · exact max_comm _ _
    · exact min_comm _ _

/-! ## The four blocks -/

variable {p : Nat}

/-- The number of a block. -/
abbrev Blk (p : Nat) : Type := Fin (2 ^ (p + 2 - p))

theorem blk_lt (c : Blk p) : c.val < 4 := lt_of_lt_of_eq c.isLt (congrArg (2 ^ ·) (Nat.add_sub_cancel_left p 2))

theorem le_two (p : Nat) : p ≤ p + 2 := Nat.le_add_right p 2

/-- Place `j` of block `c`. -/
abbrev place (c : Blk p) (j : Fin (2 ^ p)) : Fin (2 ^ (p + 2)) := chunkPos (le_two p) c j

theorem place_val (c : Blk p) (j : Fin (2 ^ p)) : (place c j).val = c.val * 2 ^ p + j.val := rfl

/-- The block a place lies in. -/
def blockOf (i : Fin (2 ^ (p + 2))) : Blk p := ⟨i.val / 2 ^ p, by
  rw [Nat.add_sub_cancel_left]
  refine Nat.div_lt_of_lt_mul ?_
  rw [← Nat.pow_add]; exact i.isLt⟩

/-- Its place in the block. -/
def inBlock (i : Fin (2 ^ (p + 2))) : Fin (2 ^ p) := ⟨i.val % 2 ^ p, Nat.mod_lt _ (Nat.two_pow_pos p)⟩

theorem blockOf_place (c : Blk p) (j : Fin (2 ^ p)) : blockOf (place c j) = c :=
  Fin.ext (by
    show (c.val * 2 ^ p + j.val) / 2 ^ p = c.val
    rw [Nat.mul_comm, Nat.mul_add_div (Nat.two_pow_pos p), Nat.div_eq_of_lt j.isLt, Nat.add_zero])

theorem inBlock_place (c : Blk p) (j : Fin (2 ^ p)) : inBlock (place c j) = j :=
  Fin.ext (by
    show (c.val * 2 ^ p + j.val) % 2 ^ p = j.val
    rw [Nat.mul_comm, Nat.mul_add_mod, Nat.mod_eq_of_lt j.isLt])

theorem eq_place (i : Fin (2 ^ (p + 2))) : i = place (blockOf i) (inBlock i) :=
  Fin.ext (by
    show i.val = i.val / 2 ^ p * 2 ^ p + i.val % 2 ^ p
    rw [Nat.mul_comm, Nat.div_add_mod])

/-- A column given by its four blocks. -/
def spread (A : Blk p → Fin (2 ^ p) → α) : Fin (2 ^ (p + 2)) → α := fun i => A (blockOf i) (inBlock i)

theorem spread_place (A : Blk p → Fin (2 ^ p) → α) (c : Blk p) (j : Fin (2 ^ p)) : spread A (place c j) = A c j := by
  unfold spread
  rw [blockOf_place, inBlock_place]

/-- A column is known by its blocks. -/
theorem eq_spread (f : Fin (2 ^ (p + 2)) → α) (A : Blk p → Fin (2 ^ p) → α) (h : ∀ c j, f (place c j) = A c j) : f = spread A :=
  funext fun i => (congrArg f (eq_place i)).trans (h _ _)

/-! ## The first part: every block alone -/

/-- A level of the sort of every block, block `c` descending where `d c`. -/
def aloneLevel (d : Blk p → Bool) (l : Nat) : Network (2 ^ (p + 2)) :=
  (List.range (l + 1)).reverse.flatMap fun s =>
    SortNet.stage (p + 2) s fun i => (decide ((inBlock i).val &&& 2 ^ (l + 1) = 0)) == d (blockOf i)

/-- The sort of every block. -/
def aloneNet (d : Blk p → Bool) : Network (2 ^ (p + 2)) := (List.range p).flatMap (aloneLevel d)

theorem apply_aloneLevel (d : Blk p → Bool) {l : Nat} (hl : l < p) (v : Fin (2 ^ (p + 2)) → α) (c : Blk p) (j : Fin (2 ^ p)) :
    Network.apply (aloneLevel d l) v (place c j) = Network.apply (levelNet p (d c) l) (fun j => v (place c j)) j := by
  unfold aloneLevel levelNet
  rw [apply_flatMap_stage_chunkPos (le_two p) _ (fun s hs => by have := List.mem_range.mp (List.mem_reverse.mp hs); omega)]
  simp only [inBlock_place, blockOf_place]

theorem apply_aloneNet (d : Blk p → Bool) (v : Fin (2 ^ (p + 2)) → α) (c : Blk p) (j : Fin (2 ^ p)) :
    Network.apply (aloneNet d) v (place c j) = Network.apply (sortNet p (d c)) (fun j => v (place c j)) j := by
  have step : ∀ L : List Nat, (∀ l ∈ L, l < p) → ∀ v : Fin (2 ^ (p + 2)) → α,
      (fun j => Network.apply (L.flatMap (aloneLevel d)) v (place c j))
        = Network.apply (L.flatMap (levelNet p (d c))) (fun j => v (place c j)) := by
    intro L
    induction L with
    | nil => exact fun _ _ => rfl
    | cons l L ih =>
      intro hL v
      rw [List.flatMap_cons, List.flatMap_cons, Network.apply_append, Network.apply_append,
        ih (fun k hk => hL k (List.mem_cons_of_mem l hk))]
      exact congrArg _ (funext fun j => apply_aloneLevel d (hL l List.mem_cons_self) v c j)
  exact congrFun (step (List.range p) (fun l hl => List.mem_range.mp hl) v) j

/-! ## The two merging levels -/

/-- The distances within a block, in one direction. -/
def mergeNet (p : Nat) (up : Bool) : Network (2 ^ p) := (List.range p).reverse.flatMap fun s => SortNet.stage p s fun _ => !up

/-- The smaller of two entries, or the larger. -/
def pick (low : Bool) (a b : α) : α := if low then min a b else max a b

/-- The block across distance `2 ^ t`. -/
abbrev across (t : Nat) (c : Blk p) : Blk p := partner (p + 2 - p) t c

/-- Whether bit `t` of a block's number is clear. -/
def lowAt (t : Nat) (c : Blk p) : Bool := decide (c.val &&& 2 ^ t = 0)

theorem lowAt_one_across_zero (c : Blk p) : lowAt 1 (across 0 c) = lowAt 1 c := by
  unfold lowAt
  rw [partner_val (by omega), Nat.and_xor_distrib_right, show (2 ^ 0 &&& 2 ^ 1 : Nat) = 0 from rfl, Nat.xor_zero]

theorem low_place (t : Nat) (c : Blk p) (j : Fin (2 ^ p)) : decide ((place c j).val &&& 2 ^ (p + t) = 0) = lowAt t c := by
  have h := chunkPos_high_clear_iff (le_two p) (Nat.le_add_right p t) c j
  rw [Nat.add_sub_cancel_left p t] at h
  exact decide_eq_decide.mpr h

theorem partner_place {t : Nat} (ht : t < 2) (c : Blk p) (j : Fin (2 ^ p)) : partner (p + 2) (p + t) (place c j) = place (across t c) j := by
  have h := partner_chunkPos_high (le_two p) (Nat.le_add_right p t) (by omega) c j
  rw [Nat.add_sub_cancel_left p t] at h
  exact h

/-- A stage between blocks, its direction one for each pair of blocks. -/
theorem apply_between {t : Nat} (ht : t < 2) (w : Fin (2 ^ (p + 2)) → Bool) (u : Blk p → Bool) (hw : ∀ c j, w (place c j) = u c)
    (hu : ∀ c, u (across t c) = u c) (v : Fin (2 ^ (p + 2)) → α) (c : Blk p) (j : Fin (2 ^ p)) :
    Network.apply (SortNet.stage (p + 2) (p + t) w) v (place c j)
      = pick (lowAt t c != u c) (v (place c j)) (v (place (across t c) j)) := by
  rw [apply_stage_at (by omega) w
    (fun i => by rw [eq_place i, partner_place ht, hw, hw, hu]), partner_place ht, hw, low_place]
  unfold pick
  cases lowAt t c <;> cases u c <;> rfl

/-- The distances within a block, after the stages between blocks. -/
theorem apply_within (w : Fin (2 ^ (p + 2)) → Bool) (up : Blk p → Bool) (hw : ∀ c j, w (place c j) = !up c)
    (v : Fin (2 ^ (p + 2)) → α) (c : Blk p) (j : Fin (2 ^ p)) :
    Network.apply ((List.range p).reverse.flatMap fun s => SortNet.stage (p + 2) s w) v (place c j)
      = Network.apply (mergeNet p (up c)) (fun j => v (place c j)) j := by
  rw [apply_flatMap_stage_chunkPos (le_two p) _ (fun s hs => List.mem_range.mp (List.mem_reverse.mp hs))]
  unfold mergeNet
  simp only [hw]

/-- The level that merges the blocks in pairs: the lower pair of blocks ascending, the upper descending. -/
theorem apply_pairs (v : Fin (2 ^ (p + 2)) → α) (c : Blk p) (j : Fin (2 ^ p)) :
    Network.apply (levelNet (p + 2) false p) v (place c j)
      = Network.apply (mergeNet p (lowAt 1 c))
          (fun j => pick (lowAt 0 c == lowAt 1 c) (v (place c j)) (v (place (across 0 c) j))) j := by
  have hw : ∀ (c : Blk p) (j : Fin (2 ^ p)), ((decide ((place c j).val &&& 2 ^ (p + 1) = 0)) == false) = !lowAt 1 c := fun c j => by
    rw [low_place 1]; cases lowAt 1 c <;> rfl
  unfold levelNet
  rw [List.range_succ, List.reverse_append, List.flatMap_append, Network.apply_append, List.reverse_singleton, List.flatMap_singleton,
    apply_within _ (lowAt 1) hw]
  congr 1
  funext j
  have h := apply_between (t := 0) (by decide) (fun i => decide (i.val &&& 2 ^ (p + 1) = 0) == false) (fun c => !lowAt 1 c) hw (fun c => congrArg not (lowAt_one_across_zero c)) v c j
  refine h.trans ?_
  congr 1
  cases lowAt 0 c <;> cases lowAt 1 c <;> rfl

/-- The level that merges the pairs into the whole, ascending. -/
theorem apply_whole (v : Fin (2 ^ (p + 2)) → α) (c : Blk p) (j : Fin (2 ^ p)) :
    Network.apply (levelNet (p + 2) false (p + 1)) v (place c j)
      = Network.apply (mergeNet p true)
          (fun j => pick (lowAt 0 c) (pick (lowAt 1 c) (v (place c j)) (v (place (across 1 c) j)))
            (pick (lowAt 1 (across 0 c)) (v (place (across 0 c) j)) (v (place (across 1 (across 0 c)) j)))) j := by
  have hw : ∀ (c : Blk p) (j : Fin (2 ^ p)), ((decide ((place c j).val &&& 2 ^ (p + 1 + 1) = 0)) == false) = false := fun c j => by
    rw [decide_eq_true ((and_two_pow_eq_zero_iff_testBit _ _).mpr (Nat.testBit_lt_two_pow (place c j).isLt))]; rfl
  unfold levelNet
  rw [List.range_succ, List.range_succ, List.reverse_append, List.reverse_append, List.flatMap_append, List.flatMap_append,
    Network.apply_append, Network.apply_append, List.reverse_singleton, List.reverse_singleton, List.flatMap_singleton,
    List.flatMap_singleton, apply_within _ (fun _ => true) hw]
  congr 1
  funext j
  have h : ∀ (v : Fin (2 ^ (p + 2)) → α) (c : Blk p),
      Network.apply (SortNet.stage (p + 2) p fun i => decide (i.val &&& 2 ^ (p + 1 + 1) = 0) == false) v (place c j)
        = pick (lowAt 0 c != false) (v (place c j)) (v (place (across 0 c) j)) := fun v c => apply_between (t := 0) (by decide) (fun i => decide (i.val &&& 2 ^ (p + 1 + 1) = 0) == false) (fun _ => false) hw (fun _ => rfl) v c j
  rw [h, apply_between (t := 1) (by decide) (fun i => decide (i.val &&& 2 ^ (p + 1 + 1) = 0) == false) (fun _ => false) hw (fun _ => rfl),
    apply_between (t := 1) (by decide) (fun i => decide (i.val &&& 2 ^ (p + 1 + 1) = 0) == false) (fun _ => false) hw (fun _ => rfl)]
  simp only [Bool.bne_false]

/-! ## The outcome ascends -/

/-- The chunks of `2 ^ l` positions sorted, the even ones ascending and the odd ones descending. -/
def Alternating {P : Nat} (l : Nat) (hl : l ≤ P) (v : Fin (2 ^ P) → α) : Prop :=
  ∀ c : Fin (2 ^ (P - l)), (c.val % 2 = 0 → Monotone fun j => v (chunkPos hl c j)) ∧ (c.val % 2 = 1 → Antitone fun j => v (chunkPos hl c j))

/-- A vector whose lower half ascends and whose upper half descends. -/
theorem descAsc_of_halves {q : Nat} (v : Fin (2 ^ (q + 1)) → α) (h₀ : Monotone fun j => v (lowerPos q j))
    (h₁ : Antitone fun j => v (upperPos q j)) : DescAsc v := by
  refine ⟨2 ^ q, Or.inr ⟨fun i k hik hk => ?_, fun i k hik hi => ?_⟩⟩
  · have hik' : i.val ≤ k.val := hik
    have hi : i.val < 2 ^ q := by omega
    rw [eq_lowerPos i hi, eq_lowerPos k hk]
    exact h₀ (show i.val ≤ k.val from hik')
  · have hik' : i.val ≤ k.val := hik
    have hi' : ¬i.val < 2 ^ q := by omega
    have hk' : ¬k.val < 2 ^ q := by omega
    rw [eq_upperPos i hi', eq_upperPos k hk']
    exact h₁ (show i.val - 2 ^ q ≤ k.val - 2 ^ q by omega)

/-- A level merges the chunks in pairs. -/
theorem Alternating.level {P l : Nat} {hl : l + 1 ≤ P} {v : Fin (2 ^ P) → α} (h : Alternating l (Nat.le_of_succ_le hl) v) :
    Alternating (l + 1) hl (Network.apply (levelNet P false l) v) := by
  intro c
  have hb : DescAsc fun j : Fin (2 ^ (l + 1)) => v (chunkPos hl c j) := by
    have hc := c.isLt
    have e : 2 ^ (P - l) = 2 ^ (P - (l + 1)) * 2 := by rw [show P - l = P - (l + 1) + 1 by omega, Nat.pow_succ]
    apply descAsc_of_halves
    · have := (h ⟨2 * c.val, by omega⟩).1 (show 2 * c.val % 2 = 0 by omega)
      simpa only [chunkPos_two_mul hl] using this
    · have := (h ⟨2 * c.val + 1, by omega⟩).2 (show (2 * c.val + 1) % 2 = 1 by omega)
      simpa only [chunkPos_two_mul_add_one hl] using this
  refine ⟨fun hc => ?_, fun hc => ?_⟩
  · have e : (decide (c.val % 2 = 0) == false) = false := by rw [hc]; rfl
    simp only [apply_levelNet_chunkPos hl, e, Bool.false_eq_true, if_false]
    exact mergeAscNet_apply_monotone (l + 1) _ hb
  · have e : (decide (c.val % 2 = 0) == false) = true := by rw [hc]; rfl
    simp only [apply_levelNet_chunkPos hl, e, if_true]
    exact mergeDescNet_apply_antitone (l + 1) _ hb

/-- Whether a block's number is odd. -/
def oddBlock (c : Blk p) : Bool := decide (c.val % 2 = 1)

/-- The whole network. -/
def fourNet (p : Nat) : Network (2 ^ (p + 2)) := aloneNet oddBlock ++ (levelNet (p + 2) false p ++ levelNet (p + 2) false (p + 1))

theorem apply_fourNet (v : Fin (2 ^ (p + 2)) → α) : Network.apply (fourNet p) v
    = Network.apply (levelNet (p + 2) false (p + 1)) (Network.apply (levelNet (p + 2) false p) (Network.apply (aloneNet oddBlock) v)) := by
  unfold fourNet; rw [Network.apply_append, Network.apply_append]

theorem fourSorted (v : Fin (2 ^ (p + 2)) → α) : Monotone (Network.apply (fourNet p) v) := by
  have h₁ : Alternating p (le_two p) (Network.apply (aloneNet oddBlock) v) := fun c => by
    refine ⟨fun hc => ?_, fun hc => ?_⟩
    · have e : oddBlock c = false := decide_eq_false (by omega)
      simp only [apply_aloneNet, e]
      exact sortNet_apply_monotone p _
    · have e : oddBlock c = true := decide_eq_true hc
      simp only [apply_aloneNet, e]
      exact sortNet_apply_antitone p _
  have h₂ : Alternating (p + 1) (Nat.le_succ _) (Network.apply (levelNet (p + 2) false p) (Network.apply (aloneNet oddBlock) v)) := h₁.level
  have h₃ := (h₂.level (hl := le_refl (p + 2)) ⟨0, Nat.two_pow_pos _⟩).1 rfl
  simp only [chunkPos_self] at h₃
  rw [apply_fourNet]
  exact h₃

/-- A column has one ascending rearrangement. -/
theorem ascending_unique {n : Nat} (v : Fin n → α) (σ ρ : Equiv.Perm (Fin n)) (h : Monotone (v ∘ σ)) (h' : Monotone (v ∘ ρ)) :
    v ∘ σ = v ∘ ρ := by
  have asc : ∀ f : Fin n → α, Monotone f → (List.ofFn f).Pairwise (· ≤ ·) := fun f hf => by
    rw [List.pairwise_ofFn]; exact fun i k hik => hf hik.le
  exact List.ofFn_injective (List.Perm.eq_of_pairwise (fun a b _ _ hab hba => le_antisymm hab hba) (asc _ h) (asc _ h')
    ((Equiv.Perm.ofFn_comp_perm σ v).trans (Equiv.Perm.ofFn_comp_perm ρ v).symm))

/-- Whatever ascends and rearranges a column is that column through the network. -/
theorem eq_fourNet (v : Fin (2 ^ (p + 2)) → α) (σ : Equiv.Perm (Fin (2 ^ (p + 2)))) (h : Monotone (v ∘ σ)) :
    v ∘ σ = Network.apply (fourNet p) v := by
  obtain ⟨ρ, hρ⟩ := Network.exists_perm (fourNet p) v
  have h' := fourSorted v
  rw [hρ] at h' ⊢
  exact ascending_unique v σ ρ h h'

/-- The same for a column whose length is written `n`. -/
theorem eq_fourNet_rows {n : Nat} (hn : n = 2 ^ (p + 2)) (v : Fin n → α) (σ : Equiv.Perm (Fin n)) (h : Monotone (v ∘ σ)) (R : Fin (2 ^ (p + 2))) :
    v (σ (Fin.cast hn.symm R)) = Network.apply (fourNet p) (fun i => v (Fin.cast hn.symm i)) R := by
  subst hn
  exact congrFun (eq_fourNet v σ h) R

end Cert.KernelIdeal.Sort
-- ==== Proof.Columns.lean ====
/-
  The vectors of the kernel, one lane at a time.

  Lane `q` of a chunk is a column of `2 ^ 11` entries (`col`). On it the kernel's stage is the stage of the compare-exchange
  network (`col_stage`), its run of stages the network's (`col_stages`), and its eleven merges the network that sorts
  (`col_presorted`). The two later phases follow (`col_merged`, `col_finished`). All of it over the extended reals, on which the
  smaller and the larger of two entries are those of a linear order.
-/
module

public import proofs.«01_k».proof.Proof.Body
public import proofs.«01_k».proof.Proof.Network
public import Idealize.ShloMosaic.Lib.Pipeline.Value
public import Idealize.ShloMosaic.PureOps.Ideal

@[expose] public section

noncomputable section

namespace Cert.KernelIdeal.Sort

open Cert.KernelIdeal Cert.KernelIdeal.Gen
open Idealize.ShloMosaic
open Idealize.ShloMosaic.SortNet (partner Network levelNet levelsNet sortNet)

/-! ## Places -/

/-- Row `r` of lane `q`. -/
def at2 (r : Fin (2 ^ 11)) (q : Fin 256) : S2048x256.Idx := Shape.pair (d := ![2048, 256]) ⟨r.val, r.isLt⟩ q

/-- Row `r` of a mask of rows. -/
def at1 (r : Fin (2 ^ 11)) : S2048x1.Idx := Shape.pair (d := ![2048, 1]) ⟨r.val, r.isLt⟩ ⟨0, by decide⟩

/-- Lane `q` of a chunk. -/
def col (v : FVec Ideal S2048x256 .bf16) (q : Fin 256) : Fin (2 ^ 11) → EReal := fun r => v (at2 r q)

/-! ## The stage -/

theorem bitClear_at (e : Nat) (he : e ≤ 11) (r : Fin (2 ^ 11)) : bitClear e (at1 r) = BitVec.ofBool (decide (r.val &&& 2 ^ e = 0)) := by
  show BitVec.ofBool (IntOp.andi (rowNo (at1 r)) (BitVec.ofNat 32 (2 ^ e)) == 0#32) = _
  have h : rowNo (at1 r) = BitVec.ofNat 32 r.val := iota_single_apply .tc S2048x1 32 0 _ (at1 r)
  have hr : r.val < 2 ^ 32 := lt_of_lt_of_le r.isLt (by decide)
  have hd : (BitVec.ofNat 32 (2 ^ e)).toNat = 2 ^ e := by
    rw [BitVec.toNat_ofNat, Nat.mod_eq_of_lt (Nat.pow_lt_pow_right (by decide) (by omega))]
  rw [h]
  congr 1
  rw [Bool.eq_iff_iff, beq_iff_eq, decide_eq_true_eq, SortNet.and_distance_eq_zero_iff hr _ hd]

theorem onLanes_at (b : IVec S2048x1 1) (r : Fin (2 ^ 11)) (q : Fin 256) : onLanes b (at2 r q) = b (at1 r) := by
  unfold onLanes
  rw [shapeCast_self]
  refine broadcastTo_apply b _ _ _ fun a => ?_
  fin_cases a
  · rfl
  · exact (if_pos rfl).symm

theorem rollUp_at (e : Fin 11) (v : FVec Ideal S2048x256 .bf16) (r k : Fin (2 ^ 11)) (q : Fin 256) (h : k.val = r.val + 2 ^ e.val) :
    rollUp e v (at2 r q) = v (at2 k q) := by
  have hk : k.val < 2048 := k.isLt
  unfold rollUp
  refine (concatenate_pair_apply_left (t := S2048x256) (s₁ := ⟨2, ![2048 - 2 ^ e.val, 256]⟩) (s₂ := ⟨2, ![2 ^ e.val, 256]⟩) 0 _ _ _ _ rfl
    (Shape.pair (d := ![2048 - 2 ^ e.val, 256]) ⟨r.val, show r.val < 2048 - 2 ^ e.val by omega⟩ q)
    (fun b => by fin_cases b <;> rfl)).trans ?_
  refine extractStridedSlice_apply _ _ _ _ _ fun a => ?_
  fin_cases a
  · show k.val = 2 ^ e.val + r.val
    omega
  · show q.val = 0 + q.val
    omega

theorem rollDown_at (e : Fin 11) (v : FVec Ideal S2048x256 .bf16) (r k : Fin (2 ^ 11)) (q : Fin 256) (h : r.val = k.val + 2 ^ e.val) :
    rollDown e v (at2 r q) = v (at2 k q) := by
  have hr : r.val < 2048 := r.isLt
  unfold rollDown
  refine (concatenate_pair_apply_right (t := S2048x256) (s₁ := ⟨2, ![2 ^ e.val, 256]⟩) (s₂ := ⟨2, ![2048 - 2 ^ e.val, 256]⟩) 0 _ _ _ _
    rfl rfl
    (Shape.pair (d := ![2048 - 2 ^ e.val, 256]) ⟨k.val, show k.val < 2048 - 2 ^ e.val by omega⟩ q)
    (fun b hb => by
      fin_cases b
      · exact absurd rfl hb
      · rfl)
    (by show k.val + 2 ^ e.val = r.val; omega)).trans ?_
  refine extractStridedSlice_apply _ _ _ _ _ fun a => ?_
  fin_cases a
  · show k.val = 0 + k.val
    omega
  · show q.val = 0 + q.val
    omega

/-- The partner's row is the row of the network's partner. -/
theorem partnerRow_at (e : Fin 11) (v : FVec Ideal S2048x256 .bf16) (r : Fin (2 ^ 11)) (q : Fin 256) :
    partnerRow e v (at2 r q) = v (at2 (partner 11 e.val r) q) := by
  show Scalar.select (onLanes (bitClear e.val) (at2 r q)) (rollUp e v (at2 r q)) (rollDown e v (at2 r q)) = _
  rw [onLanes_at, bitClear_at e.val e.isLt.le, SortNet.select_ofBool]
  by_cases h : r.val &&& 2 ^ e.val = 0
  · rw [decide_eq_true h, if_pos rfl]
    exact rollUp_at e v r _ q (SortNet.partner_val_of_clear e.isLt r h)
  · rw [decide_eq_false h, if_neg Bool.false_ne_true]
    have := SortNet.partner_val_of_set e.isLt r h
    exact rollDown_at e v r _ q (by omega)

/-- The kernel's stage is the network's. -/
theorem col_stage (e : Fin 11) (up : IVec S2048x1 1) (u : Fin (2 ^ 11) → Bool) (hu : ∀ r, up (at1 r) = BitVec.ofBool (u r))
    (hp : ∀ r, u (partner 11 e.val r) = u r) (v : FVec Ideal S2048x256 .bf16) (q : Fin 256) :
    col (stage e up v) q = Network.apply (SortNet.stage 11 e.val fun r => !u r) (col v q) := by
  funext r
  rw [apply_stage_at e.isLt _ (fun i => congrArg not (hp i))]
  show Scalar.select (onLanes (xori (xori (bitClear e.val) up) (constantI S2048x1 1 1#1)) (at2 r q))
    (min (v (at2 r q)) (partnerRow e v (at2 r q))) (max (v (at2 r q)) (partnerRow e v (at2 r q))) = _
  rw [onLanes_at, partnerRow_at]
  have hm : xori (xori (bitClear e.val) up) (constantI S2048x1 1 1#1) (at1 r)
      = BitVec.ofBool (decide (decide (r.val &&& 2 ^ e.val = 0) = u r)) := by
    show IntOp.xori (IntOp.xori (bitClear e.val (at1 r)) (up (at1 r))) 1#1 = _
    rw [bitClear_at e.val e.isLt.le, hu, SortNet.ofBool_xor_xor_one]
  rw [hm, SortNet.select_ofBool]
  cases decide (r.val &&& 2 ^ e.val = 0) <;> cases u r <;> rfl

/-- A run of stages in one direction. -/
theorem col_stages (up : IVec S2048x1 1) (u : Fin (2 ^ 11) → Bool) (hu : ∀ r, up (at1 r) = BitVec.ofBool (u r)) (q : Fin 256) :
    ∀ (n : Nat) (hn : n ≤ 11) (_ : ∀ e, e < n → ∀ r, u (partner 11 e r) = u r) (v : FVec Ideal S2048x256 .bf16),
      col (stages up n hn v) q = Network.apply ((List.range n).reverse.flatMap fun s => SortNet.stage 11 s fun r => !u r) (col v q)
  | 0, _, _, _ => rfl
  | n + 1, hn, hp, v => by
    rw [List.range_succ, List.reverse_append, List.flatMap_append, Network.apply_append, List.reverse_singleton, List.flatMap_singleton,
      ← col_stage ⟨n, hn⟩ up u hu (hp n (Nat.lt_succ_self n)) v q]
    exact col_stages up u hu q n (Nat.le_of_succ_le hn) (fun e he => hp e (Nat.lt_succ_of_lt he)) _

/-- The merges, up to runs of length `2 ^ n`. -/
theorem col_merges (d : Bool) (q : Fin 256) : ∀ (n : Nat) (hn : n ≤ 11) (v : FVec Ideal S2048x256 .bf16),
    col (merges (BitVec.ofBool d) n hn v) q = Network.apply (levelsNet 11 d n) (col v q)
  | 0, _, _ => rfl
  | n + 1, hn, v => by
    have hu : ∀ r, direction (BitVec.ofBool d) (n + 1) (at1 r) = BitVec.ofBool (!(decide (r.val &&& 2 ^ (n + 1) = 0) == d)) := fun r => by
      show IntOp.xori (bitClear (n + 1) (at1 r)) (BitVec.ofBool d) = _
      rw [bitClear_at (n + 1) hn, SortNet.ofBool_xor]
      cases decide (r.val &&& 2 ^ (n + 1) = 0) <;> cases d <;> rfl
    have h := col_stages (direction (BitVec.ofBool d) (n + 1)) _ hu q (n + 1) hn
      (fun e he r => congrArg not (SortNet.sizeClear_partner (by omega) (by omega) d r)) (merges (BitVec.ofBool d) n (Nat.le_of_succ_le hn) v)
    rw [SortNet.levelsNet_succ, Network.apply_append, ← col_merges d q n (Nat.le_of_succ_le hn) v]
    simp only [Bool.not_not] at h
    exact h

/-! ## The three phases -/

theorem col_presorted (d : Bool) (x : Vec Ideal S2048x256 .f32) (q : Fin 256) :
    col (presorted (BitVec.ofBool d) x) q = Network.apply (sortNet 11 d) fun r => x (at2 r q) := by
  unfold presorted
  rw [col_merges, shapeCast_self, SortNet.sortNet_eq_levelsNet]
  rfl

theorem col_within (up : Bool) (v : FVec Ideal S2048x256 .bf16) (q : Fin 256) :
    col (stages (allRows (BitVec.ofBool up)) 11 (Nat.le_refl 11) v) q = Network.apply (mergeNet 11 up) (col v q) :=
  col_stages (allRows (BitVec.ofBool up)) (fun _ => up) (fun _ => rfl) q 11 (Nat.le_refl 11) (fun _ _ _ => rfl) v

theorem exchange_at (low : Bool) (v w : FVec Ideal S2048x256 .bf16) (r : Fin (2 ^ 11)) (q : Fin 256) :
    exchange (BitVec.ofBool low) v w (at2 r q) = pick low (v (at2 r q)) (w (at2 r q)) := by
  unfold exchange
  rw [SortNet.select_ofBool]
  cases low <;> rfl

theorem col_merged (low up : Bool) (v w : FVec Ideal S2048x256 .bf16) (q : Fin 256) :
    col (merged (BitVec.ofBool low) (BitVec.ofBool up) v w) q
      = Network.apply (mergeNet 11 up) fun r => pick low (col v q r) (col w q r) := by
  unfold merged
  rw [col_within]
  exact congrArg _ (funext fun r => exchange_at low v w r q)

theorem col_finished (low₂ low₁ : Bool) (own p₁ p₂ p₃ : FVec Ideal S2048x256 .bf16) (q : Fin 256) :
    col (finished (BitVec.ofBool low₂) (BitVec.ofBool low₁) own p₁ p₂ p₃) q
      = Network.apply (mergeNet 11 true) fun r =>
        pick low₁ (pick low₂ (col own q r) (col p₂ q r)) (pick low₂ (col p₁ q r) (col p₃ q r)) := by
  unfold finished
  refine (col_within true _ q).trans (congrArg _ (funext fun r => ?_))
  refine (exchange_at low₁ _ _ r q).trans ?_
  rw [exchange_at, exchange_at]
  rfl

end Cert.KernelIdeal.Sort

end
-- ==== Proof.Sorted.lean ====
/-
  The kernel's result is the reference's.

  Column `l` of the whole array lies in four blocks of 2048 rows, one on each device. What the devices leave of it is that column
  through the network of Network.lean (`spread_final`), hence its one ascending rearrangement. The reference's sort leaves an
  ascending rearrangement of it too (`reference_column`), because over the extended reals its comparator is `<`. So they agree
  entry by entry (`result_eq`), and the claim follows.
-/
module

public import proofs.«01_k».proof.Proof.Columns
public import proofs.«01_k».proof.Proof.Claims
public import Idealize.ShloMosaic.Lib.SortFacts

@[expose] public section

noncomputable section

namespace Cert.KernelIdeal.Sort

open Cert.KernelIdeal Cert.KernelIdeal.Gen
open Idealize.ShloMosaic Idealize.ShloMosaic.TcCoe
open Idealize.SL.Sem
open Idealize.ShloMosaic.SortNet (Network levelNet sortNet)

/-! ## The devices as blocks -/

/-- The device that holds a block. -/
def holder (c : Blk 11) : Dev nD := ⟨c.val, blk_lt c⟩

theorem isOdd_eq : ∀ d : Dev nD, isOdd d = BitVec.ofBool (decide (d.val % 2 = 1)) := by decide
theorem lowPair_eq : ∀ d : Dev nD, lowPair d = BitVec.ofBool (decide (d.val &&& 2 ^ 1 = 0)) := by decide
theorem lowOne_eq : ∀ d : Dev nD, lowOne d = BitVec.ofBool (decide (d.val &&& 2 ^ 0 = 0)) := by decide
theorem keepsLow_eq : ∀ d : Dev nD,
    keepsLow d = BitVec.ofBool (decide (d.val &&& 2 ^ 0 = 0) == decide (d.val &&& 2 ^ 1 = 0)) := by decide

theorem peer_holder_zero (c : Blk 11) : peer 1 (holder c) = holder (across 0 c) := Fin.ext rfl
theorem peer_holder_one (c : Blk 11) : peer 2 (holder c) = holder (across 1 c) := Fin.ext rfl
theorem peer_three : ∀ d : Dev nD, peer 3 d = peer 2 (peer 1 d) := by decide
theorem peer_holder_both (c : Blk 11) : peer 3 (holder c) = holder (across 1 (across 0 c)) := by
  rw [peer_three, peer_holder_zero, peer_holder_one]

/-! ## The kernel's columns -/

section Kernel

variable (x : Dev nD → (cc0_stg0_0 : Ref sig .tc).ty.Contents (Elt Ideal)) (ch : Fin 2) (q : Fin 256)

/-- Lane `q` of chunk `ch` is column `256 * ch + q`. -/
def column : Fin 512 := ⟨256 * ch.val + q.val, by omega⟩

/-- The column as it lies in the devices' arguments. -/
def initial (c : Blk 11) (r : Fin (2 ^ 11)) : EReal := x (holder c) (Shape.pair (d := ![2048, 512]) ⟨r.val, r.isLt⟩ (column ch q))

theorem chunk_at (y : (cc0_stg0_0 : Ref sig .tc).ty.Contents (Elt Ideal)) (r : Fin (2 ^ 11)) :
    chunk y ch (at2 r q) = y (Shape.pair (d := ![2048, 512]) ⟨r.val, r.isLt⟩ (column ch q)) := by
  show y ((rect2 ch).emb (at2 r q)) = _
  refine congrArg y (funext fun a => Fin.ext ?_)
  fin_cases a
  · show 0 + 1 * r.val = r.val
    omega
  · show 256 * ch.val + 1 * q.val = 256 * ch.val + q.val
    omega

theorem spread_alone : spread (fun c => col (alone x (holder c) ch) q) = Network.apply (aloneNet oddBlock) (spread (initial x ch q)) := by
  refine (eq_spread _ _ fun c j => ?_).symm
  refine (apply_aloneNet oddBlock _ c j).trans ?_
  simp only [spread_place]
  unfold alone
  rw [isOdd_eq, col_presorted]
  simp only [chunk_at]
  rfl

theorem spread_paired : spread (fun c => col (paired x (holder c) ch) q)
    = Network.apply (levelNet (11 + 2) false 11) (spread fun c => col (alone x (holder c) ch) q) := by
  refine (eq_spread _ _ fun c j => ?_).symm
  refine (apply_pairs _ c j).trans ?_
  simp only [spread_place]
  unfold paired
  rw [keepsLow_eq, lowPair_eq, col_merged, show pal 0 (holder c) = holder (across 0 c) from peer_holder_zero c]
  rfl

theorem spread_final : spread (fun c => col (final x (holder c) ch) q) = Network.apply (fourNet 11) (spread (initial x ch q)) := by
  rw [apply_fourNet, ← spread_alone, ← spread_paired]
  refine (eq_spread _ _ fun c j => ?_).symm
  refine (apply_whole _ c j).trans ?_
  simp only [spread_place]
  unfold final
  rw [lowPair_eq, lowOne_eq, col_finished, show pal 1 (holder c) = holder (across 0 c) from peer_holder_zero c,
    show pal 2 (holder c) = holder (across 1 c) from peer_holder_one c,
    show pal 3 (holder c) = holder (across 1 (across 0 c)) from peer_holder_both c, lowAt_one_across_zero]
  rfl

end Kernel

/-! ## The reference's columns -/

/-- Over the extended reals the reference's comparator is `<`. -/
theorem comparator_eq (a b : Ideal .f32) : Cert.ReferenceIdeal.comparator_f32_d0 a b = BitVec.ofBool (decide (a < b)) := by
  have canon : ∀ z nan a : EReal,
      Scalar.select (Ideal.cmp .une a a) nan (Scalar.select (Ideal.cmp .oeq a z) z a) = a := fun z nan a => by
    have h₁ : Ideal.cmp .une a a = BitVec.ofBool false := congrArg BitVec.ofBool (decide_eq_false (not_not.mpr rfl))
    have h₂ : Ideal.cmp .oeq a z = BitVec.ofBool (decide (a = z)) := rfl
    rw [h₁, h₂, SortNet.select_ofBool, SortNet.select_ofBool, if_neg Bool.false_ne_true]
    by_cases h : a = z
    · rw [decide_eq_true h, if_pos rfl, h]
    · rw [decide_eq_false h, if_neg Bool.false_ne_true]
  show Ideal.cmpTotal .lt (Scalar.select (Ideal.cmp .une a a) _ (Scalar.select (Ideal.cmp .oeq a _) _ a))
    (Scalar.select (Ideal.cmp .une b b) _ (Scalar.select (Ideal.cmp .oeq b _) _ b)) = _
  rw [canon, canon]
  rfl

/-- The reference's sort leaves in a column an ascending rearrangement of it. -/
theorem reference_column {n k : Nat} (y : (⟨2, ![n, k]⟩ : Shape).Idx → EReal) (l : Fin k) :
    ∃ σ : Equiv.Perm (Fin n), Monotone ((fun R => y (Shape.pair (d := ![n, k]) R l)) ∘ σ)
      ∧ ∀ R, Host.sort (α := Ideal .f32) ⟨2, ![n, k]⟩ 0 Cert.ReferenceIdeal.comparator_f32_d0 y (Shape.pair (d := ![n, k]) R l)
        = y (Shape.pair (d := ![n, k]) (σ R) l) := by
  let B : Fin n → Fin n → Bool := fun i j => decide (y (Shape.pair (d := ![n, k]) i l) < y (Shape.pair (d := ![n, k]) j l))
  have hB : ∀ a b, B a b = false → y (Shape.pair (d := ![n, k]) b l) ≤ y (Shape.pair (d := ![n, k]) a l) := fun a b h =>
    not_lt.mp (of_decide_eq_false h)
  refine ⟨Equiv.ofBijective (sortedFrom B) ⟨sortedFrom_injective B, sortedFrom_surjective B⟩, fun R R' h => ?_, fun R => ?_⟩
  · rcases eq_or_lt_of_le h with rfl | h
    · exact le_refl _
    · refine hB _ _ (sortedFrom_noInversion B B (fun a b hab => ?_) (fun _ _ hab => hab) (fun a b c hab hbc => ?_) R R' h)
      · exact decide_eq_false (not_lt.mpr (of_decide_eq_true hab).le)
      · exact decide_eq_false (not_lt.mpr ((hB b c hbc).trans (hB a b hab)))
  · have ha : ∀ i : Fin n, (Shape.pair (d := ![n, k]) R l).along (0 : Fin 2) i = Shape.pair (d := ![n, k]) i l := fun i => by
      funext a
      fin_cases a <;> rfl
    have hs : (fun i j : Fin n => Cert.ReferenceIdeal.comparator_f32_d0 (F := Ideal)
        (y ((Shape.pair (d := ![n, k]) R l).along (0 : Fin 2) i)) (y ((Shape.pair (d := ![n, k]) R l).along (0 : Fin 2) j)) == 1#1) = B := by
      funext i j
      rw [ha, ha, comparator_eq]
      show _ = decide (y (Shape.pair (d := ![n, k]) i l) < y (Shape.pair (d := ![n, k]) j l))
      cases decide (y (Shape.pair (d := ![n, k]) i l) < y (Shape.pair (d := ![n, k]) j l)) <;> rfl
    unfold Host.sort
    rw [dif_pos (show 0 < 2 from Nat.zero_lt_two)]
    refine Eq.trans ?_ (congrArg y (ha (sortedFrom B R)))
    rw [← hs]
    rfl

/-! ## The agreement -/

theorem rows_eq : 8192 = 2 ^ (11 + 2) := by decide

/-- Row `r` of the block of device `c` is row `place c r` of the whole. -/
theorem block_row {α : Type} (z : (⟨2, ![8192, 512]⟩ : Shape).Idx → α) (c : Blk 11) (r : Fin (2 ^ 11)) (l : Fin 512) :
    (Layout.block ⟨2, ![2048, 512]⟩ ⟨2, ![8192, 512]⟩ 0 4 (holder c) z) (Shape.pair (d := ![2048, 512]) ⟨r.val, r.isLt⟩ l)
      = z (Shape.pair (d := ![8192, 512]) (Fin.cast rows_eq.symm (place c r)) l) := by
  refine congrArg z (funext fun a => ?_)
  fin_cases a
  · exact Fin.ext rfl
  · exact Fin.ext rfl

variable (x : Dev nD → (cc0_stg0_0 : Ref sig .tc).ty.Contents (Elt Ideal)) (y : (⟨2, ![8192, 512]⟩ : Shape).Idx → EReal)

/-- Where the devices hold the blocks of `y`, a column as they hold it is the column of `y`. -/
theorem spread_initial (h : ∀ c : Dev nD, x c = Layout.block ⟨2, ![2048, 512]⟩ ⟨2, ![8192, 512]⟩ 0 4 c y) (ch : Fin 2) (q : Fin 256) :
    spread (initial x ch q) = fun i => y (Shape.pair (d := ![8192, 512]) (Fin.cast rows_eq.symm i) (column ch q)) := by
  refine (eq_spread _ _ fun c r => ?_).symm
  unfold initial
  rw [h (holder c), block_row]

/-- What they leave of it is what the reference's sort leaves. -/
theorem spread_result (h : ∀ c : Dev nD, x c = Layout.block ⟨2, ![2048, 512]⟩ ⟨2, ![8192, 512]⟩ 0 4 c y) (ch : Fin 2) (q : Fin 256)
    (c : Blk 11) (r : Fin (2 ^ 11)) :
    col (final x (holder c) ch) q r = Host.sort (α := Ideal .f32) ⟨2, ![8192, 512]⟩ 0 Cert.ReferenceIdeal.comparator_f32_d0 y
      (Shape.pair (d := ![8192, 512]) (Fin.cast rows_eq.symm (place c r)) (column ch q)) := by
  obtain ⟨σ, hσ, hs⟩ := reference_column (n := 8192) (k := 512) y (column ch q)
  have h₁ := eq_fourNet_rows rows_eq _ σ hσ (place c r)
  have h₂ := congrFun (spread_final x ch q) (place c r)
  rw [spread_place, spread_initial x y h] at h₂
  exact h₂.trans (h₁.symm.trans (hs _).symm)

/-- An entry of the glued result is an entry of a lane of its chunk. -/
theorem glued_at (Z : Fin 2 → FVec Ideal S2048x256 .bf16) (i : S2048x512.Idx) : ∃ (ch : Fin 2) (q : Fin 256) (r : Fin (2 ^ 11)),
    glued Z i = col (Z ch) q r ∧ i = Shape.pair (d := ![2048, 512]) ⟨r.val, r.isLt⟩ (column ch q) := by
  have h := (i 1).isLt
  change (i 1).val < 512 at h
  refine ⟨⟨(i 1).val / 256, by omega⟩, ⟨(i 1).val % 256, Nat.mod_lt _ (by decide)⟩, ⟨(i 0).val, (i 0).isLt⟩, ?_, ?_⟩
  · unfold glued col
    refine congrArg _ (funext fun a => ?_)
    fin_cases a
    · exact Fin.ext rfl
    · exact Fin.ext rfl
  · funext a
    fin_cases a
    · exact Fin.ext rfl
    · exact Fin.ext (Nat.div_add_mod (i 1).val 256).symm

/-- Where the devices hold the blocks of `y`, what they leave is the blocks of the reference's result. -/
theorem result_eq (h : ∀ c : Dev nD, x c = Layout.block ⟨2, ![2048, 512]⟩ ⟨2, ![8192, 512]⟩ 0 4 c y) (c : Dev nD) :
    glued (final x c) = Layout.block ⟨2, ![2048, 512]⟩ ⟨2, ![8192, 512]⟩ 0 4 c
      (Host.sort (α := Ideal .f32) ⟨2, ![8192, 512]⟩ 0 Cert.ReferenceIdeal.comparator_f32_d0 y) := by
  obtain ⟨b, rfl⟩ : ∃ b : Blk 11, c = holder b := ⟨⟨c.val, c.isLt⟩, rfl⟩
  funext i
  obtain ⟨ch, q, r, hv, rfl⟩ := glued_at (final x (holder b)) i
  rw [hv, block_row]
  exact spread_result x y h ch q b r

end Cert.KernelIdeal.Sort

namespace Cert.Proof

open Idealize.ShloMosaic Idealize.ShloMosaic.TcCoe
open Idealize.SL.Sem

/-- Over the extended reals the devices' results are the blocks of the reference's. -/
theorem algebraic : Cert.algebraic_KernelIdeal_ReferenceIdeal := fun m g m' g' _ hx =>
  ⟨truncf .bf16 (Host.sort (α := Ideal .f32) ⟨2, ![8192, 512]⟩ 0 Cert.ReferenceIdeal.comparator_f32_d0
      (m' (((0 : Dev Cert.ReferenceIdeal.nD) : Thread Cert.ReferenceIdeal.nD Cert.ReferenceIdeal.τ).loc Cert.ReferenceIdeal.main_arg0))) Cert.ReferenceIdeal.Facts₀.bitsLt_bf16_f32,
    (θ_run _ _ _).mono (fun _ h c => ⟨(h.1 c).1.trans (Cert.KernelIdeal.Sort.result_eq _ _ hx c), (h.1 c).2⟩)
      (Cert.KernelIdeal.Sort.run_value (F := Ideal) m g),
    (θ_run _ _ _).mono (fun _ h => h 0) (Cert.ReferenceIdeal.Value.run (F := Ideal) m' g')⟩

end Cert.Proof

end
-- ==== Proof.lean ====
/-
  The certificate: the claims of Defs.lean, put together.
-/
module

public import proofs.«01_k».proof.Defs
public import proofs.«01_k».proof.Proof.Claims
public import proofs.«01_k».proof.Proof.Sorted

@[expose] public section

noncomputable section

/-- The kernel, its idealization and the reference run, keep their arguments and end quiescent; the idealization rewrites
    nothing; and over the extended reals each device is left with its block of the sorted columns. -/
theorem Cert.Proof.claim : Cert.Claim :=
  ⟨Cert.Kernel.Gen.facts, Cert.KernelIdeal.Gen.facts, Cert.ReferenceIdeal.Gen.facts, Cert.Proof.frame_kernel,
    Cert.Proof.frame_kernelIdeal, Cert.Proof.frame_referenceIdeal, trivial, Cert.Proof.algebraic⟩

end
